-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_RFfnIdeal (m : (ℓ : Loc Cert.RFfnIdeal.nD Cert.RFfnIdeal.τ Cert.RFfnIdeal.sig) → Buf (Elt Ideal) ℓ) : Prop :=
  True

def Pre_KConv (m : (ℓ : Loc Cert.KConv.nD Cert.KConv.τ Cert.KConv.sig) → Buf (Elt Bits) ℓ) : Prop :=
  True

def Pre_KConvIdeal (m : (ℓ : Loc Cert.KConvIdeal.nD Cert.KConvIdeal.τ Cert.KConvIdeal.sig) → Buf (Elt Ideal) ℓ) : Prop :=
  True

def Pre_RConvIdeal (m : (ℓ : Loc Cert.RConvIdeal.nD Cert.RConvIdeal.τ Cert.RConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3)
      ∧ r.2.mem ((c.tc : Thread Cert.KFfn.nD Cert.KFfn.τ).loc Cert.KFfn.main_arg4) = m ((c.tc : Thread Cert.KFfn.nD Cert.KFfn.τ).loc Cert.KFfn.main_arg4))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4))
      ∧ r.2.sem = fun _ => 0)

def quiescent_KConv [hKConv : Cert.KConv.Facts] : Prop :=
  ∀ (m : (ℓ : Loc Cert.KConv.nD Cert.KConv.τ Cert.KConv.sig) → Buf (Elt Bits) ℓ) (g : Dev Cert.KConv.nD → PrngReg), Pre_KConv m →
    θ_run (Cert.KConv.defs (F := Bits)) (onTc (τ := Cert.KConv.τ) (Cert.KConv.main (F := Bits))) ⟨m, fun _ => 0, g⟩ (fun r => (∀ c : Dev Cert.KConv.nD,
      r.2.mem ((c.tc : Thread Cert.KConv.nD Cert.KConv.τ).loc Cert.KConv.main_arg0) = m ((c.tc : Thread Cert.KConv.nD Cert.KConv.τ).loc Cert.KConv.main_arg0)
      ∧ r.2.mem ((c.tc : Thread Cert.KConv.nD Cert.KConv.τ).loc Cert.KConv.main_arg1) = m ((c.tc : Thread Cert.KConv.nD Cert.KConv.τ).loc Cert.KConv.main_arg1)
      ∧ r.2.mem ((c.tc : Thread Cert.KConv.nD Cert.KConv.τ).loc Cert.KConv.main_arg2) = m ((c.tc : Thread Cert.KConv.nD Cert.KConv.τ).loc Cert.KConv.main_arg2)
      ∧ r.2.mem ((c.tc : Thread Cert.KConv.nD Cert.KConv.τ).loc Cert.KConv.main_arg3) = m ((c.tc : Thread Cert.KConv.nD Cert.KConv.τ).loc Cert.KConv.main_arg3)
      ∧ r.2.mem ((c.tc : Thread Cert.KConv.nD Cert.KConv.τ).loc Cert.KConv.main_arg4) = m ((c.tc : Thread Cert.KConv.nD Cert.KConv.τ).loc Cert.KConv.main_arg4)
      ∧ r.2.mem ((c.tc : Thread Cert.KConv.nD Cert.KConv.τ).loc Cert.KConv.main_arg5) = m ((c.tc : Thread Cert.KConv.nD Cert.KConv.τ).loc Cert.KConv.main_arg5))
      ∧ r.2.sem = fun _ => 0)

def quiescent_KConvIdeal [hKConvIdeal : Cert.KConvIdeal.Facts] : Prop :=
  ∀ (m : (ℓ : Loc Cert.KConvIdeal.nD Cert.KConvIdeal.τ Cert.KConvIdeal.sig) → Buf (Elt Ideal) ℓ) (g : Dev Cert.KConvIdeal.nD → PrngReg), Pre_KConvIdeal m →
    θ_run (Cert.KConvIdeal.defs (F := Ideal)) (onTc (τ := Cert.KConvIdeal.τ) (Cert.KConvIdeal.main (F := Ideal))) ⟨m, fun _ => 0, g⟩ (fun r => (∀ c : Dev Cert.KConvIdeal.nD,
      r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
      ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
      ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2)
      ∧ r.2.mem ((c.tc : Thread Cert.KConvIdeal.nD Cert.KConvIdeal.τ).loc Cert.KConvIdeal.main_arg3) = m ((c.tc : Thread Cert.KConvIdeal.nD Cert.KConvIdeal.τ).loc Cert.KConvIdeal.main_arg3)
      ∧ r.2.mem ((c.tc : Thread Cert.KConvIdeal.nD Cert.KConvIdeal.τ).loc Cert.KConvIdeal.main_arg4) = m ((c.tc : Thread Cert.KConvIdeal.nD Cert.KConvIdeal.τ).loc Cert.KConvIdeal.main_arg4)
      ∧ r.2.mem ((c.tc : Thread Cert.KConvIdeal.nD Cert.KConvIdeal.τ).loc Cert.KConvIdeal.main_arg5) = m ((c.tc : Thread Cert.KConvIdeal.nD Cert.KConvIdeal.τ).loc Cert.KConvIdeal.main_arg5))
      ∧ r.2.sem = fun _ => 0)

def quiescent_RConvIdeal [hRConvIdeal : Cert.RConvIdeal.Facts] : Prop :=
  ∀ (m : (ℓ : Loc Cert.RConvIdeal.nD Cert.RConvIdeal.τ Cert.RConvIdeal.sig) → Buf (Elt Ideal) ℓ) (g : Dev Cert.RConvIdeal.nD → PrngReg), Pre_RConvIdeal m →
    θ_run (Cert.RConvIdeal.defs (F := Ideal)) (onTc (τ := Cert.RConvIdeal.τ) (Cert.RConvIdeal.main (F := Ideal))) ⟨m, fun _ => 0, g⟩ (fun r => (∀ c : Dev Cert.RConvIdeal.nD,
      r.2.mem ((c.tc : Thread Cert.RConvIdeal.nD Cert.RConvIdeal.τ).loc Cert.RConvIdeal.main_arg0) = m ((c.tc : Thread Cert.RConvIdeal.nD Cert.RConvIdeal.τ).loc Cert.RConvIdeal.main_arg0)
      ∧ r.2.mem ((c.tc : Thread Cert.RConvIdeal.nD Cert.RConvIdeal.τ).loc Cert.RConvIdeal.main_arg1) = m ((c.tc : Thread Cert.RConvIdeal.nD Cert.RConvIdeal.τ).loc Cert.RConvIdeal.main_arg1)
      ∧ r.2.mem ((c.tc : Thread Cert.RConvIdeal.nD Cert.RConvIdeal.τ).loc Cert.RConvIdeal.main_arg2) = m ((c.tc : Thread Cert.RConvIdeal.nD Cert.RConvIdeal.τ).loc Cert.RConvIdeal.main_arg2)
      ∧ r.2.mem ((c.tc : Thread Cert.RConvIdeal.nD Cert.RConvIdeal.τ).loc Cert.RConvIdeal.main_arg3) = m ((c.tc : Thread Cert.RConvIdeal.nD Cert.RConvIdeal.τ).loc Cert.RConvIdeal.main_arg3)
      ∧ r.2.mem ((c.tc : Thread Cert.RConvIdeal.nD Cert.RConvIdeal.τ).loc Cert.RConvIdeal.main_arg4) = m ((c.tc : Thread Cert.RConvIdeal.nD Cert.RConvIdeal.τ).loc Cert.RConvIdeal.main_arg4)
      ∧ r.2.mem ((c.tc : Thread Cert.RConvIdeal.nD Cert.RConvIdeal.τ).loc Cert.RConvIdeal.main_arg5) = m ((c.tc : Thread Cert.RConvIdeal.nD Cert.RConvIdeal.τ).loc Cert.RConvIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "qscale" .f32 0x3E38AA3B#32 (((Real.log 256)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KFfn_KFfnIdeal : Prop :=
  True

def algebraic_KFfnIdeal_RFfnIdeal [hKFfnIdeal : Cert.KFfnIdeal.Facts] [hRFfnIdeal : Cert.RFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)
      ∧ m' ((c.tc : Thread Cert.RFfnIdeal.nD Cert.RFfnIdeal.τ).loc Cert.RFfnIdeal.main_arg4) = m ((c.tc : Thread Cert.KFfnIdeal.nD Cert.KFfnIdeal.τ).loc Cert.KFfnIdeal.main_arg4)) →
    ∃ (v0 : (c : Dev Cert.KFfnIdeal.nD) → Buf (Elt Ideal) ((c.tc : Thread Cert.KFfnIdeal.nD Cert.KFfnIdeal.τ).loc Cert.KFfnIdeal.main_v2)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v2) = v0 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
          ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v53) = v0 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4))

def preserves_KConv_KConvIdeal : Prop :=
  True

def algebraic_KConvIdeal_RConvIdeal [hKConvIdeal : Cert.KConvIdeal.Facts] [hRConvIdeal : Cert.RConvIdeal.Facts] : Prop :=
  ∀ (m : (ℓ : Loc Cert.KConvIdeal.nD Cert.KConvIdeal.τ Cert.KConvIdeal.sig) → Buf (Elt Ideal) ℓ) (g : Dev Cert.KConvIdeal.nD → PrngReg)
    (m' : (ℓ : Loc Cert.RConvIdeal.nD Cert.RConvIdeal.τ Cert.RConvIdeal.sig) → Buf (Elt Ideal) ℓ) (g' : Dev Cert.RConvIdeal.nD → PrngReg), Pre_KConvIdeal m →
    (∀ c : Dev Cert.KConvIdeal.nD,
      m' ((c.tc : Thread Cert.RConvIdeal.nD Cert.RConvIdeal.τ).loc Cert.RConvIdeal.main_arg0) = m ((c.tc : Thread Cert.KConvIdeal.nD Cert.KConvIdeal.τ).loc Cert.KConvIdeal.main_arg0)
      ∧ m' ((c.tc : Thread Cert.RConvIdeal.nD Cert.RConvIdeal.τ).loc Cert.RConvIdeal.main_arg1) = m ((c.tc : Thread Cert.KConvIdeal.nD Cert.KConvIdeal.τ).loc Cert.KConvIdeal.main_arg1)
      ∧ m' ((c.tc : Thread Cert.RConvIdeal.nD Cert.RConvIdeal.τ).loc Cert.RConvIdeal.main_arg2) = m ((c.tc : Thread Cert.KConvIdeal.nD Cert.KConvIdeal.τ).loc Cert.KConvIdeal.main_arg2)
      ∧ m' ((c.tc : Thread Cert.RConvIdeal.nD Cert.RConvIdeal.τ).loc Cert.RConvIdeal.main_arg3) = m ((c.tc : Thread Cert.KConvIdeal.nD Cert.KConvIdeal.τ).loc Cert.KConvIdeal.main_arg3)
      ∧ m' ((c.tc : Thread Cert.RConvIdeal.nD Cert.RConvIdeal.τ).loc Cert.RConvIdeal.main_arg4) = m ((c.tc : Thread Cert.KConvIdeal.nD Cert.KConvIdeal.τ).loc Cert.KConvIdeal.main_arg4)
      ∧ m' ((c.tc : Thread Cert.RConvIdeal.nD Cert.RConvIdeal.τ).loc Cert.RConvIdeal.main_arg5) = m ((c.tc : Thread Cert.KConvIdeal.nD Cert.KConvIdeal.τ).loc Cert.KConvIdeal.main_arg5)) →
    ∃ (v0 : (c : Dev Cert.KConvIdeal.nD) → Buf (Elt Ideal) ((c.tc : Thread Cert.KConvIdeal.nD Cert.KConvIdeal.τ).loc Cert.KConvIdeal.main_v2)),
      θ_run (Cert.KConvIdeal.defs (F := Ideal)) (onTc (τ := Cert.KConvIdeal.τ) (Cert.KConvIdeal.main (F := Ideal))) ⟨m, fun _ => 0, g⟩ (fun r => ∀ c : Dev Cert.KConvIdeal.nD,
          r.2.mem ((c.tc : Thread Cert.KConvIdeal.nD Cert.KConvIdeal.τ).loc Cert.KConvIdeal.main_v2) = v0 c
          ∧ r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
          ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
          ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2)
          ∧ r.2.mem ((c.tc : Thread Cert.KConvIdeal.nD Cert.KConvIdeal.τ).loc Cert.KConvIdeal.main_arg3) = m ((c.tc : Thread Cert.KConvIdeal.nD Cert.KConvIdeal.τ).loc Cert.KConvIdeal.main_arg3)
          ∧ r.2.mem ((c.tc : Thread Cert.KConvIdeal.nD Cert.KConvIdeal.τ).loc Cert.KConvIdeal.main_arg4) = m ((c.tc : Thread Cert.KConvIdeal.nD Cert.KConvIdeal.τ).loc Cert.KConvIdeal.main_arg4)
          ∧ r.2.mem ((c.tc : Thread Cert.KConvIdeal.nD Cert.KConvIdeal.τ).loc Cert.KConvIdeal.main_arg5) = m ((c.tc : Thread Cert.KConvIdeal.nD Cert.KConvIdeal.τ).loc Cert.KConvIdeal.main_arg5))
      ∧ θ_run (Cert.RConvIdeal.defs (F := Ideal)) (onTc (τ := Cert.RConvIdeal.τ) (Cert.RConvIdeal.main (F := Ideal))) ⟨m', fun _ => 0, g'⟩ (fun r => ∀ c : Dev Cert.RConvIdeal.nD,
          r.2.mem ((c.tc : Thread Cert.RConvIdeal.nD Cert.RConvIdeal.τ).loc Cert.RConvIdeal.main_v77) = v0 c
          ∧ r.2.mem ((c.tc : Thread Cert.RConvIdeal.nD Cert.RConvIdeal.τ).loc Cert.RConvIdeal.main_arg0) = m' ((c.tc : Thread Cert.RConvIdeal.nD Cert.RConvIdeal.τ).loc Cert.RConvIdeal.main_arg0)
          ∧ r.2.mem ((c.tc : Thread Cert.RConvIdeal.nD Cert.RConvIdeal.τ).loc Cert.RConvIdeal.main_arg1) = m' ((c.tc : Thread Cert.RConvIdeal.nD Cert.RConvIdeal.τ).loc Cert.RConvIdeal.main_arg1)
          ∧ r.2.mem ((c.tc : Thread Cert.RConvIdeal.nD Cert.RConvIdeal.τ).loc Cert.RConvIdeal.main_arg2) = m' ((c.tc : Thread Cert.RConvIdeal.nD Cert.RConvIdeal.τ).loc Cert.RConvIdeal.main_arg2)
          ∧ r.2.mem ((c.tc : Thread Cert.RConvIdeal.nD Cert.RConvIdeal.τ).loc Cert.RConvIdeal.main_arg3) = m' ((c.tc : Thread Cert.RConvIdeal.nD Cert.RConvIdeal.τ).loc Cert.RConvIdeal.main_arg3)
          ∧ r.2.mem ((c.tc : Thread Cert.RConvIdeal.nD Cert.RConvIdeal.τ).loc Cert.RConvIdeal.main_arg4) = m' ((c.tc : Thread Cert.RConvIdeal.nD Cert.RConvIdeal.τ).loc Cert.RConvIdeal.main_arg4)
          ∧ r.2.mem ((c.tc : Thread Cert.RConvIdeal.nD Cert.RConvIdeal.τ).loc Cert.RConvIdeal.main_arg5) = m' ((c.tc : Thread Cert.RConvIdeal.nD Cert.RConvIdeal.τ).loc Cert.RConvIdeal.main_arg5))

def Claim : Prop :=
  ∃ (hKernel : Cert.Kernel.Facts) (hKernelIdeal : Cert.KernelIdeal.Facts) (hReferenceIdeal : Cert.ReferenceIdeal.Facts) (hKFfn : Cert.KFfn.Facts) (hKFfnIdeal : Cert.KFfnIdeal.Facts) (hRFfnIdeal : Cert.RFfnIdeal.Facts) (hKConv : Cert.KConv.Facts) (hKConvIdeal : Cert.KConvIdeal.Facts) (hRConvIdeal : Cert.RConvIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KFfn (hKFfn := hKFfn)
    ∧ quiescent_KFfnIdeal (hKFfnIdeal := hKFfnIdeal)
    ∧ quiescent_RFfnIdeal (hRFfnIdeal := hRFfnIdeal)
    ∧ quiescent_KConv (hKConv := hKConv)
    ∧ quiescent_KConvIdeal (hKConvIdeal := hKConvIdeal)
    ∧ quiescent_RConvIdeal (hRConvIdeal := hRConvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KFfn_KFfnIdeal
    ∧ algebraic_KFfnIdeal_RFfnIdeal (hKFfnIdeal := hKFfnIdeal) (hRFfnIdeal := hRFfnIdeal)
    ∧ preserves_KConv_KConvIdeal
    ∧ algebraic_KConvIdeal_RConvIdeal (hKConvIdeal := hKConvIdeal) (hRConvIdeal := hRConvIdeal)
-- ==== Pre_finite.lean ====
abbrev S2x8192x1024 : Shape := ⟨3, ![2, 8192, 1024]⟩
abbrev S2x3x1024 : Shape := ⟨3, ![2, 3, 1024]⟩
abbrev S2x1024 : Shape := ⟨2, ![2, 1024]⟩
abbrev S1024x3072 : Shape := ⟨2, ![1024, 3072]⟩
abbrev S16x513 : Shape := ⟨2, ![16, 513]⟩
abbrev S1024x1024 : Shape := ⟨2, ![1024, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x3x1024 : S_.BroadcastsInDim S2x3x1024 (![] : Fin 0 → Fin S2x3x1024.rank)
  reducesTo_S2x3x1024_S_d0_1_2 : S2x3x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S16x513 : S_.BroadcastsInDim S16x513 (![] : Fin 0 → Fin S16x513.rank)
  reducesTo_S16x513_S_d0_1 : S16x513.ReducesTo [0, 1] S_

variable [Facts]

def fn_part1 {F : FTy → Type} [FloatOps F] (main_arg4 : FVec F S16x513 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S16x513 .f32 := Host.absf main_arg4
  let main_cst_6 : FVec F S_ .f32 := constant S_ .f32 0x7F800000#32
  let main_v20 : FVec F S16x513 .f32 := broadcastInDim S16x513 ![] bcast_S_S16x513 main_cst_6
  let main_v21 : IVec S16x513 1 := cmpf .olt main_v19 main_v20
  let main_c_7 : IVec S_ 1 := constantI S_ 1 1#1
  let main_v22 : IVec S_ 1 := (fun x v => Host.reduce IntOp.andi x v reducesTo_S16x513_S_d0_1 h_S_) main_v21 main_c_7
  let main_v23 : IVec S_ 1 := andi main_v18 main_v22
  main_v23

def fn {F : FTy → Type} [FloatOps F] (main_arg0 : FVec F S2x8192x1024 .f32) (main_arg1 : FVec F S2x3x1024 .f32) (main_arg2 : FVec F S2x1024 .f32) (main_arg3 : FVec F S1024x3072 .f32) (main_arg4 : FVec F S16x513 .f32) (main_arg5 : FVec F S1024x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x3x1024 .f32 := Host.absf main_arg1
  let main_cst_0 : FVec F S_ .f32 := constant S_ .f32 0x7F800000#32
  let main_v5 : FVec F S2x3x1024 .f32 := broadcastInDim S2x3x1024 ![] bcast_S_S2x3x1024 main_cst_0
  let main_v6 : IVec S2x3x1024 1 := cmpf .olt main_v4 main_v5
  let main_c_1 : IVec S_ 1 := constantI S_ 1 1#1
  let main_v7 : IVec S_ 1 := (fun x v => Host.reduce IntOp.andi x v reducesTo_S2x3x1024_S_d0_1_2 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_v13 main_v16
-- ==== Kernel.lean ====
abbrev S2x8192x1024 : Shape := ⟨3, ![2, 8192, 1024]⟩
abbrev S2x3x1024 : Shape := ⟨3, ![2, 3, 1024]⟩
abbrev S2x1024 : Shape := ⟨2, ![2, 1024]⟩
abbrev S1024x3072 : Shape := ⟨2, ![1024, 3072]⟩
abbrev S16x513 : Shape := ⟨2, ![16, 513]⟩
abbrev S1024x1024 : Shape := ⟨2, ![1024, 1024]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S128x640x1 : Shape := ⟨3, ![128, 640, 1]⟩
abbrev S16x128x640 : Shape := ⟨3, ![16, 128, 640]⟩
abbrev S1x128x640 : Shape := ⟨3, ![1, 128, 640]⟩
abbrev S8x256x640 : Shape := ⟨3, ![8, 256, 640]⟩
abbrev S1x512x1024 : Shape := ⟨3, ![1, 512, 1024]⟩
abbrev S1x3x1024 : Shape := ⟨3, ![1, 3, 1024]⟩
abbrev S512x1024 : Shape := ⟨2, ![512, 1024]⟩
abbrev S8x1024 : Shape := ⟨2, ![8, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S512x3072 : Shape := ⟨2, ![512, 3072]⟩
abbrev S128x128 : Shape := ⟨2, ![128, 128]⟩
abbrev S640x128 : Shape := ⟨2, ![640, 128]⟩
abbrev S256x128 : Shape := ⟨2, ![256, 128]⟩
abbrev S256x640 : Shape := ⟨2, ![256, 640]⟩
abbrev S1x256x640 : Shape := ⟨3, ![1, 256, 640]⟩
abbrev S256 : Shape := ⟨1, ![256]⟩
abbrev S256x1 : Shape := ⟨2, ![256, 1]⟩

abbrev nBuf : Space → Nat
  | .hbm => 77
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x3x1024, .f32⟩
  | .hbm, ⟨2, _⟩ => ⟨S2x1024, .f32⟩
  | .hbm, ⟨3, _⟩ => ⟨S1024x3072, .f32⟩
  | .hbm, ⟨4, _⟩ => ⟨S16x513, .f32⟩
  | .hbm, ⟨5, _⟩ => ⟨S1024x1024, .f32⟩
  | .hbm, ⟨6, _⟩ => ⟨S1024x3072, .bf16⟩
  | .hbm, ⟨7, _⟩ => ⟨S128, .i32⟩
  | .hbm, ⟨8, _⟩ => ⟨S128x1, .i32⟩
  | .hbm, ⟨9, _⟩ => ⟨S640, .i32⟩
  | .hbm, ⟨10, _⟩ => ⟨S1x640, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x640, .i32⟩
  | .hbm, ⟨15, _⟩ => ⟨S128x640, .i32⟩
  | .hbm, ⟨16, _⟩ => ⟨S128x640, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S128x640, .i32⟩
  | .hbm, ⟨21, _⟩ => ⟨S128x640, .i32⟩
  | .hbm, ⟨22, _⟩ => ⟨S_, .i32⟩
  | .hbm, ⟨23, _⟩ => ⟨S128x640, .i32⟩
  | .hbm, ⟨24, _⟩ => ⟨S128x640, .i32⟩
  | .hbm, ⟨25, _⟩ => ⟨S_, .i32⟩
  | .hbm, ⟨26, _⟩ => ⟨S128x640, .i32⟩
  | .hbm, ⟨27, _⟩ => ⟨S128x640, .i32⟩
  | .hbm, ⟨28, _⟩ => ⟨S_, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S128x1, .i1⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S128x1, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x640, .i32⟩
  | .hbm, ⟨50, _⟩ => ⟨S128x640, .i32⟩
  | .hbm, ⟨51, _⟩ => ⟨S128x640, .i32⟩
  | .hbm, ⟨52, _⟩ => ⟨S_, .i32⟩
  | .hbm, ⟨53, _⟩ => ⟨S128x640, .i32⟩
  | .hbm, ⟨54, _⟩ => ⟨S128x640, .i1⟩
  | .hbm, ⟨55, _⟩ => ⟨S_, .i32⟩
  | .hbm, ⟨56, _⟩ => ⟨S128x640, .i32⟩
  | .hbm, ⟨57, _⟩ => ⟨S128x640, .i1⟩
  | .hbm, ⟨58, _⟩ => ⟨S128x640, .i1⟩
  | .hbm, ⟨59, _⟩ => ⟨S_, .i32⟩
  | .hbm, ⟨60, _⟩ => ⟨S128x640, .i32⟩
  | .hbm, ⟨61, _⟩ => ⟨S128x640, .i1⟩
  | .hbm, ⟨62, _⟩ => ⟨S_, .i32⟩
  | .hbm, ⟨63, _⟩ => ⟨S128x640, .i32⟩
  | .hbm, ⟨64, _⟩ => ⟨S128x640, .i32⟩
  | .hbm, ⟨65, _⟩ => ⟨S128x640, .i32⟩
  | .hbm, ⟨66, _⟩ => ⟨S128x640x1, .i32⟩
  | .hbm, ⟨67, _⟩ => ⟨S16x128x640, .f32⟩
  | .hbm, ⟨68, _⟩ => ⟨S1x128x640, .i1⟩
  | .hbm, ⟨69, _⟩ => ⟨S_, .f32⟩
  | .hbm, ⟨70, _⟩ => ⟨S_, .f32⟩
  | .hbm, ⟨71, _⟩ => ⟨S16x128x640, .i1⟩
  | .hbm, ⟨72, _⟩ => ⟨S16x128x640, .f32⟩
  | .hbm, ⟨73, _⟩ => ⟨S16x128x640, .f32⟩
  | .hbm, ⟨74, _⟩ => ⟨S8x256x640, .f32⟩
  | .hbm, ⟨75, _⟩ => ⟨S1024x1024, .bf16⟩
  | .hbm, ⟨76, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S2x1024, .f32⟩
  | .local _ .vmem, ⟨5, _⟩ => ⟨S1024x3072, .bf16⟩
  | .local _ .vmem, ⟨6, _⟩ => ⟨S8x256x640, .f32⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v13 : Ref sig .tc := ⟨.hbm, 45, rfl⟩
abbrev main_c_4 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_5 : Ref sig .tc := ⟨.hbm, 52, rfl⟩
abbrev main_v19 : Ref sig .tc := ⟨.hbm, 53, rfl⟩
abbrev main_v20 : Ref sig .tc := ⟨.hbm, 54, rfl⟩
abbrev main_c_6 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_c_7 : Ref sig .tc := ⟨.hbm, 59, rfl⟩
abbrev main_v24 : Ref sig .tc := ⟨.hbm, 60, rfl⟩
abbrev main_v25 : Ref sig .tc := ⟨.hbm, 61, rfl⟩
abbrev main_c_8 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_27 : BitVec 32 := 0#32
  let c4_i32 : BitVec 32 := 4#32
  let v64 : BitVec 32 := Scalar.addi c0_i32_27 c4_i32
  let c1_i32 : BitVec 32 := 1#32
  ⟨c0_i32_27, v64, c1_i32⟩
def k0_mult1 (k0_t1 : Fin k0_t1_loop.trips) : BitVec 32 :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  v98
def k0_off1 (k0_t1 : Fin k0_t1_loop.trips) : Fin 2 → Nat :=
  let c0_52 : Index := 0#32
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v100 : Index := Scalar.indexCast v99
  ![0, v100.toNat]
def k0_off2 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v102 : Index := Scalar.indexCast v99
  let c0_53 : Index := 0#32
  ![v102.toNat, 0]
def k0_off3 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v104 : Index := Scalar.indexCast v99
  let c0_54 : Index := 0#32
  ![v104.toNat, 0]
def k0_off4 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v141 : Index := Scalar.indexCast v99
  let c128 : Index := 128#32
  ![v141.toNat, 128]
def k0_off5 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v143 : Index := Scalar.indexCast v99
  let c128_67 : Index := 128#32
  ![v143.toNat, 128]
def k0_off6 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v180 : Index := Scalar.indexCast v99
  let c256 : Index := 256#32
  ![v180.toNat, 256]
def k0_off7 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v182 : Index := Scalar.indexCast v99
  let c256_80 : Index := 256#32
  ![v182.toNat, 256]
def k0_off8 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v219 : Index := Scalar.indexCast v99
  let c384 : Index := 384#32
  ![v219.toNat, 384]
def k0_off9 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v221 : Index := Scalar.indexCast v99
  let c384_93 : Index := 384#32
  ![v221.toNat, 384]
def k0_off10 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v258 : Index := Scalar.indexCast v99
  let c512_105 : Index := 512#32
  ![v258.toNat, 512]
def k0_off11 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v260 : Index := Scalar.indexCast v99
  let c512_106 : Index := 512#32
  ![v260.toNat, 512]
def k0_off12 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v297 : Index := Scalar.indexCast v99
  let c640 : Index := 640#32
  ![v297.toNat, 640]
def k0_off13 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v299 : Index := Scalar.indexCast v99
  let c640_118 : Index := 640#32
  ![v299.toNat, 640]
def k0_off14 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v336 : Index := Scalar.indexCast v99
  let c768 : Index := 768#32
  ![v336.toNat, 768]
def k0_off15 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v338 : Index := Scalar.indexCast v99
  let c768_130 : Index := 768#32
  ![v338.toNat, 768]
def k0_off16 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v375 : Index := Scalar.indexCast v99
  let c896 : Index := 896#32
  ![v375.toNat, 896]
def k0_off17 (k0_t1 : Fin k0_t1_loop.trips) : Fin 2 → Nat :=
  let c0_i32_27 : BitVec 32 := 0#32
  let c1_i32 : BitVec 32 := 1#32
  let arg14 : BitVec 32 := Scf.iv c0_i32_27 c1_i32 k0_t1
  let c128_i32 : BitVec 32 := 128#32
  let v98 : BitVec 32 := Scalar.muli arg14 c128_i32
  let v99 : BitVec 32 := v98
  let v377 : Index := Scalar.indexCast v99
  let c896_142 : Index := 896#32
  ![v377.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.log 256)⁻¹ : ℝ) : EReal)
  | _ => none
-- ==== ReferenceIdeal.lean ====
abbrev S2x8192x1024 : Shape := ⟨3, ![2, 8192, 1024]⟩
abbrev S2x3x1024 : Shape := ⟨3, ![2, 3, 1024]⟩
abbrev S2x1024 : Shape := ⟨2, ![2, 1024]⟩
abbrev S1024x3072 : Shape := ⟨2, ![1024, 3072]⟩
abbrev S16x513 : Shape := ⟨2, ![16, 513]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x3072 : Shape := ⟨3, ![2, 8192, 3072]⟩
abbrev S2x8192x3x16x64 : Shape := ⟨5, ![2, 8192, 3, 16, 64]⟩
abbrev S2x8192x1x16x64 : Shape := ⟨5, ![2, 8192, 1, 16, 64]⟩
abbrev S2x8192x16x64 : Shape := ⟨4, ![2, 8192, 16, 64]⟩
abbrev S2x8704x16x64 : Shape := ⟨4, ![2, 8704, 16, 64]⟩
abbrev S2x128x64x16x64 : Shape := ⟨5, ![2, 128, 64, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S128x576 : Shape := ⟨2, ![128, 576]⟩
abbrev S128x576x1 : Shape := ⟨3, ![128, 576, 1]⟩
abbrev S2x128x576x16x64 : Shape := ⟨5, ![2, 128, 576, 16, 64]⟩
abbrev S2x128x16x64x576 : Shape := ⟨5, ![2, 128, 16, 64, 576]⟩
abbrev S1x1x16x64x576 : Shape := ⟨5, ![1, 1, 16, 64, 576]⟩
abbrev S1x128x1x1x576 : Shape := ⟨5, ![1, 128, 1, 1, 576]⟩
abbrev S2x128x16x64 : Shape := ⟨4, ![2, 128, 16, 64]⟩
abbrev S2x128x16x64x1 : Shape := ⟨5, ![2, 128, 16, 64, 1]⟩
abbrev S2x128x16x64x64 : Shape := ⟨5, ![2, 128, 16, 64, 64]⟩

abbrev nBuf : Space → Nat
  | .hbm => 176
  | .vmem => 0
  | .smem => 0
  | _ => 0

abbrev hbmTy0_0 (i : Nat) : BufTy := match i % 128 with
  | 0 => ⟨S2x8192x1024, .f32⟩
  | 1 => ⟨S2x3x1024, .f32⟩
  | 2 => ⟨S2x1024, .f32⟩
  | 3 => ⟨S1024x3072, .f32⟩
  | 4 => ⟨S16x513, .f32⟩
  | 5 => ⟨S1024x1024, .f32⟩
  | 6 => ⟨S1x1024, .f32⟩
  | 7 => ⟨S1024, .f32⟩
  | 8 => ⟨S2x8192x1024, .f32⟩
  | 9 => ⟨S_, .f32⟩
  | 10 => ⟨S2x8192, .f32⟩
  | 11 => ⟨S2x8192x1, .f32⟩
  | 12 => ⟨S_, .f32⟩
  | 13 => ⟨S2x8192x1, .f32⟩
  | 14 => ⟨S2x8192x1, .f32⟩
  | 15 => ⟨S_, .f32⟩
  | 16 => ⟨S2x8192x1, .f32⟩
  | 17 => ⟨S2x8192x1, .f32⟩
  | 18 => ⟨S2x8192x1, .f32⟩
  | 19 => ⟨S2x8192x1024, .f32⟩
  | 20 => ⟨S2x8192x1024, .f32⟩
  | 21 => ⟨S1x1x1024, .f32⟩
  | 22 => ⟨S2x8192x1024, .f32⟩
  | 23 => ⟨S2x8192x1024, .f32⟩
  | 24 => ⟨S2x1x1024, .f32⟩
  | 25 => ⟨S2x1024, .f32⟩
  | 26 => ⟨S2x1x1024, .f32⟩
  | 27 => ⟨S2x1024, .f32⟩
  | 28 => ⟨S2x1x1024, .f32⟩
  | 29 => ⟨S_, .f32⟩
  | 30 => ⟨S2x1x1024, .f32⟩
  | 31 => ⟨S2x1x1024, .f32⟩
  | 32 => ⟨S2x8192x1024, .f32⟩
  | 33 => ⟨S2x8192x1024, .f32⟩
  | 34 => ⟨S2x1x1024, .f32⟩
  | 35 => ⟨S2x8192x1024, .f32⟩
  | 36 => ⟨S2x8192x1024, .f32⟩
  | 37 => ⟨S2x1x1024, .f32⟩
  | 38 => ⟨S2x1024, .f32⟩
  | 39 => ⟨S2x1x1024, .f32⟩
  | 40 => ⟨S2x8192x3072, .f32⟩
  | 41 => ⟨S2x8192x3x16x64, .f32⟩
  | 42 => ⟨S2x8192x1x16x64, .f32⟩
  | 43 => ⟨S2x8192x16x64, .f32⟩
  | 44 => ⟨S_, .f32⟩
  | 45 => ⟨S2x8192x16x64, .f32⟩
  | 46 => ⟨S2x8192x16x64, .f32⟩
  | 47 => ⟨S2x8192x1x16x64, .f32⟩
  | 48 => ⟨S2x8192x16x64, .f32⟩
  | 49 => ⟨S2x8192x1x16x64, .f32⟩
  | 50 => ⟨S2x8192x16x64, .f32⟩
  | 51 => ⟨S_, .i32⟩
  | 52 => ⟨S_, .f32⟩
  | 53 => ⟨S2x8704x16x64, .f32⟩
  | 54 => ⟨S_, .i32⟩
  | 55 => ⟨S_, .f32⟩
  | 56 => ⟨S2x8704x16x64, .f32⟩
  | 57 => ⟨S2x128x64x16x64, .f32⟩
  | 58 => ⟨S64, .i32⟩
  | 59 => ⟨S64x1, .i32⟩
  | 60 => ⟨S576, .i32⟩
  | 61 => ⟨S1x576, .i32⟩
  | 62 => ⟨S_, .i32⟩
  | 63 => ⟨S64x1, .i32⟩
  | 64 => ⟨S64x1, .i32⟩
  | 65 => ⟨S64x576, .i32⟩
  | 66 => ⟨S64x576, .i32⟩
  | 67 => ⟨S64x576, .i32⟩
  | 68 => ⟨S_, .i32⟩
  | 69 => ⟨S_, .i32⟩
  | 70 => ⟨S_, .i32⟩
  | 71 => ⟨S64x576, .i32⟩
  | 72 => ⟨S64x576, .i32⟩
  | 73 => ⟨S_, .i32⟩
  | 74 => ⟨S64x576, .i32⟩
  | 75 => ⟨S64x576, .i32⟩
  | 76 => ⟨S_, .i32⟩
  | 77 => ⟨S64x576, .i32⟩
  | 78 => ⟨S64x576, .i32⟩
  | 79 => ⟨S_, .i32⟩
  | 80 => ⟨S64x576, .i32⟩
  | 81 => ⟨S64x576, .i1⟩
  | 82 => ⟨S_, .i32⟩
  | 83 => ⟨S64x576, .i32⟩
  | 84 => ⟨S64x576, .i32⟩
  | 85 => ⟨S64x576, .i32⟩
  | 86 => ⟨S64x576x1, .i32⟩
  | 87 => ⟨S16x64x576, .f32⟩
  | 88 => ⟨S576, .i32⟩
  | 89 => ⟨S128, .i32⟩
  | 90 => ⟨S128x1, .i32⟩
  | 91 => ⟨S_, .i32⟩
  | 92 => ⟨S128x1, .i32⟩
  | 93 => ⟨S128x1, .i32⟩
  | 94 => ⟨S1x576, .i32⟩
  | 95 => ⟨S128x576, .i32⟩
  | 96 => ⟨S128x576, .i32⟩
  | 97 => ⟨S128x576, .i32⟩
  | 98 => ⟨S_, .i32⟩
  | 99 => ⟨S128x576, .i32⟩
  | 100 => ⟨S128x576, .i1⟩
  | 101 => ⟨S_, .i32⟩
  | 102 => ⟨S128x576, .i32⟩
  | 103 => ⟨S128x576, .i32⟩
  | 104 => ⟨S128x576, .i32⟩
  | 105 => ⟨S128x576x1, .i32⟩
  | 106 => ⟨S2x128x576x16x64, .f32⟩
  | 107 => ⟨S_, .i32⟩
  | 108 => ⟨S128x576, .i32⟩
  | 109 => ⟨S128x576, .i1⟩
  | 110 => ⟨S_, .i32⟩
  | 111 => ⟨S128x576, .i32⟩
  | 112 => ⟨S128x576, .i32⟩
  | 113 => ⟨S128x576, .i32⟩
  | 114 => ⟨S128x576x1, .i32⟩
  | 115 => ⟨S2x128x576x16x64, .f32⟩
  | 116 => ⟨S2x128x16x64x576, .f32⟩
  | 117 => ⟨S1x1x16x64x576, .f32⟩
  | 118 => ⟨S2x128x16x64x576, .f32⟩
  | 119 => ⟨S2x128x16x64x576, .f32⟩
  | 120 => ⟨S1x576, .i32⟩
  | 121 => ⟨S128x1, .i32⟩
  | 122 => ⟨S_, .i32⟩
  | 123 => ⟨S128x1, .i32⟩
  | 124 => ⟨S128x1, .i32⟩
  | 125 => ⟨S_, .i32⟩
  | 126 => ⟨S128x1, .i32⟩
  | 127 => ⟨S128x1, .i32⟩
  | _ => ⟨S2x8192x1024, .f32⟩

abbrev hbmTy0_1 (i : Nat) : BufTy := match i % 128 with
  | 0 => ⟨S128x576, .i32⟩
  | 1 => ⟨S128x576, .i32⟩
  | 2 => ⟨S128x576, .i1⟩
  | 3 => ⟨S1x128x1x1x576, .i1⟩
  | 4 => ⟨S_, .f32⟩
  | 5 => ⟨S_, .f32⟩
  | 6 => ⟨S2x128x16x64x576, .i1⟩
  | 7 => ⟨S2x128x16x64x576, .f32⟩
  | 8 => ⟨S2x128x16x64x576, .f32⟩
  | 9 => ⟨S_, .f32⟩
  | 10 => ⟨S2x128x16x64, .f32⟩
  | 11 => ⟨S_, .f32⟩
  | 12 => ⟨S2x128x16x64, .f32⟩
  | 13 => ⟨S2x128x16x64, .f32⟩
  | 14 => ⟨S2x128x16x64x1, .f32⟩
  | 15 => ⟨S2x128x16x64x576, .f32⟩
  | 16 => ⟨S2x128x16x64x576, .f32⟩
  | 17 => ⟨S2x128x16x64x576, .f32⟩
  | 18 => ⟨S_, .f32⟩
  | 19 => ⟨S2x128x16x64, .f32⟩
  | 20 => ⟨S2x128x16x64x1, .f32⟩
  | 21 => ⟨S2x128x16x64x576, .f32⟩
  | 22 => ⟨S2x128x16x64x576, .f32⟩
  | 23 => ⟨S2x128x16x64x64, .f32⟩
  | 24 => ⟨S2x128x64x16x64, .f32⟩
  | 25 => ⟨S2x8192x1024, .f32⟩
  | 26 => ⟨S2x8192x1024, .f32⟩
  | 27 => ⟨S1x1024, .f32⟩
  | 28 => ⟨S1024, .f32⟩
  | 29 => ⟨S2x8192x1024, .f32⟩
  | 30 => ⟨S_, .f32⟩
  | 31 => ⟨S2x8192, .f32⟩
  | 32 => ⟨S2x8192x1, .f32⟩
  | 33 => ⟨S_, .f32⟩
  | 34 => ⟨S2x8192x1, .f32⟩
  | 35 => ⟨S2x8192x1, .f32⟩
  | 36 => ⟨S_, .f32⟩
  | 37 => ⟨S2x8192x1, .f32⟩
  | 38 => ⟨S2x8192x1, .f32⟩
  | 39 => ⟨S2x8192x1, .f32⟩
  | 40 => ⟨S2x8192x1024, .f32⟩
  | 41 => ⟨S2x8192x1024, .f32⟩
  | 42 => ⟨S1x1x1024, .f32⟩
  | 43 => ⟨S2x8192x1024, .f32⟩
  | 44 => ⟨S2x8192x1024, .f32⟩
  | 45 => ⟨S2x8192x1024, .f32⟩
  | 46 => ⟨S2x8192x1024, .f32⟩
  | 47 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_call0_v0 : Ref sig .tc := ⟨.hbm, 52, rfl⟩
abbrev main_v40 : Ref sig .tc := ⟨.hbm, 53, rfl⟩
abbrev main_c_4 : Ref sig .tc := ⟨.hbm, 54, rfl⟩
abbrev main_call1_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_6 : Ref sig .tc := ⟨.hbm, 68, rfl⟩
abbrev main_c_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_12 : Ref sig .tc := ⟨.hbm, 98, rfl⟩
abbrev main_v71 : Ref sig .tc := ⟨.hbm, 99, rfl⟩
abbrev main_v72 : Ref sig .tc := ⟨.hbm, 100, rfl⟩
abbrev main_c_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_14 : Ref sig .tc := ⟨.hbm, 107, rfl⟩
abbrev main_v78 : Ref sig .tc := ⟨.hbm, 108, rfl⟩
abbrev main_v79 : Ref sig .tc := ⟨.hbm, 109, rfl⟩
abbrev main_c_15 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_16 : Ref sig .tc := ⟨.hbm, 122, rfl⟩
abbrev main_v91 : Ref sig .tc := ⟨.hbm, 123, rfl⟩
abbrev main_v92 : Ref sig .tc := ⟨.hbm, 124, rfl⟩
abbrev main_c_17 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_18 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v99 : Ref sig .tc := ⟨.hbm, 136, rfl⟩
abbrev main_cst_19 : Ref sig .tc := ⟨.hbm, 137, rfl⟩
abbrev main_v100 : Ref sig .tc := ⟨.hbm, 138, rfl⟩
abbrev main_cst_20 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_21 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_22 : Ref sig .tc := ⟨.hbm, 158, rfl⟩
abbrev main_v118 : Ref sig .tc := ⟨.hbm, 159, rfl⟩
abbrev main_v119 : Ref sig .tc := ⟨.hbm, 160, rfl⟩
abbrev main_cst_23 : Ref sig .tc := ⟨.hbm, 161, rfl⟩
abbrev main_v120 : Ref sig .tc := ⟨.hbm, 162, rfl⟩
abbrev main_v121 : Ref sig .tc := ⟨.hbm, 163, rfl⟩
abbrev main_cst_24 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩

abbrev nD : Nat := 1
abbrev τ : Topo := Topo.v7x

variable {F : FTy → Type} [FloatOps F]
-- ==== KFfn.lean ====
abbrev S2x8192x1024 : Shape := ⟨3, ![2, 8192, 1024]⟩
abbrev S2x3x1024 : Shape := ⟨3, ![2, 3, 1024]⟩
abbrev S2x1024 : Shape := ⟨2, ![2, 1024]⟩
abbrev S1024x5632 : Shape := ⟨2, ![1024, 5632]⟩
abbrev S2816x1024 : Shape := ⟨2, ![2816, 1024]⟩
abbrev S1x512x1024 : Shape := ⟨3, ![1, 512, 1024]⟩
abbrev S1x3x1024 : Shape := ⟨3, ![1, 3, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 8
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x3x1024, .f32⟩
  | .hbm, ⟨2, _⟩ => ⟨S2x1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S2x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x512x1024, .f32⟩
  | .local _ .vmem, ⟨8, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RFfnIdeal.lean ====
abbrev S2x8192x1024 : Shape := ⟨3, ![2, 8192, 1024]⟩
abbrev S2x3x1024 : Shape := ⟨3, ![2, 3, 1024]⟩
abbrev S2x1024 : Shape := ⟨2, ![2, 1024]⟩
abbrev S1024x5632 : Shape := ⟨2, ![1024, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x5632 : Shape := ⟨3, ![2, 8192, 5632]⟩
abbrev S2x8192x2816 : Shape := ⟨3, ![2, 8192, 2816]⟩

abbrev nBuf : Space → Nat
  | .hbm => 74
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x3x1024, .f32⟩
  | .hbm, ⟨2, _⟩ => ⟨S2x1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x1x1024, .f32⟩
  | .hbm, ⟨24, _⟩ => ⟨S2x1024, .f32⟩
  | .hbm, ⟨25, _⟩ => ⟨S2x1x1024, .f32⟩
  | .hbm, ⟨26, _⟩ => ⟨S2x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x1x1024, .f32⟩
  | .hbm, ⟨37, _⟩ => ⟨S2x1024, .f32⟩
  | .hbm, ⟨38, _⟩ => ⟨S2x1x1024, .f32⟩
  | .hbm, ⟨39, _⟩ => ⟨S2x8192x5632, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S_, .f32⟩
  | .hbm, ⟨45, _⟩ => ⟨S2x8192x2816, .f32⟩
  | .hbm, ⟨46, _⟩ => ⟨S2x8192x2816, .f32⟩
  | .hbm, ⟨47, _⟩ => ⟨S_, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x1024, .f32⟩
  | .hbm, ⟨53, _⟩ => ⟨S1x1024, .f32⟩
  | .hbm, ⟨54, _⟩ => ⟨S1024, .f32⟩
  | .hbm, ⟨55, _⟩ => ⟨S2x8192x1024, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== KConv.lean ====
abbrev S2x8192x1024 : Shape := ⟨3, ![2, 8192, 1024]⟩
abbrev S2x3x1024 : Shape := ⟨3, ![2, 3, 1024]⟩
abbrev S2x1024 : Shape := ⟨2, ![2, 1024]⟩
abbrev S1024x3072 : Shape := ⟨2, ![1024, 3072]⟩
abbrev S3x1024 : Shape := ⟨2, ![3, 1024]⟩
abbrev S1024x1024 : Shape := ⟨2, ![1024, 1024]⟩
abbrev S1x512x1024 : Shape := ⟨3, ![1, 512, 1024]⟩
abbrev S1x3x1024 : Shape := ⟨3, ![1, 3, 1024]⟩
abbrev S520x1024 : Shape := ⟨2, ![520, 1024]⟩
abbrev S8x1024 : Shape := ⟨2, ![8, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S512x3072 : Shape := ⟨2, ![512, 3072]⟩

abbrev nBuf : Space → Nat
  | .hbm => 9
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x3x1024, .f32⟩
  | .hbm, ⟨2, _⟩ => ⟨S2x1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S1024x3072, .bf16⟩
  | .hbm, ⟨7, _⟩ => ⟨S1024x1024, .bf16⟩
  | .hbm, ⟨8, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S2x1024, .f32⟩
  | .local _ .vmem, ⟨5, _⟩ => ⟨S1024x3072, .bf16⟩
  | .local _ .vmem, ⟨6, _⟩ => ⟨S3x1024, .f32⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S520x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RConvIdeal.lean ====
abbrev S2x8192x1024 : Shape := ⟨3, ![2, 8192, 1024]⟩
abbrev S2x3x1024 : Shape := ⟨3, ![2, 3, 1024]⟩
abbrev S2x1024 : Shape := ⟨2, ![2, 1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x3072 : Shape := ⟨3, ![2, 8192, 3072]⟩
abbrev S2x8194x1024 : Shape := ⟨3, ![2, 8194, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x3x1024, .f32⟩
  | .hbm, ⟨2, _⟩ => ⟨S2x1024, .f32⟩
  | .hbm, ⟨3, _⟩ => ⟨S1024x3072, .f32⟩
  | .hbm, ⟨4, _⟩ => ⟨S3x1024, .f32⟩
  | .hbm, ⟨5, _⟩ => ⟨S1024x1024, .f32⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x1x1024, .f32⟩
  | .hbm, ⟨25, _⟩ => ⟨S2x1024, .f32⟩
  | .hbm, ⟨26, _⟩ => ⟨S2x1x1024, .f32⟩
  | .hbm, ⟨27, _⟩ => ⟨S2x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x1x1024, .f32⟩
  | .hbm, ⟨38, _⟩ => ⟨S2x1024, .f32⟩
  | .hbm, ⟨39, _⟩ => ⟨S2x1x1024, .f32⟩
  | .hbm, ⟨40, _⟩ => ⟨S2x8192x3072, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S_, .i32⟩
  | .hbm, ⟨46, _⟩ => ⟨S_, .f32⟩
  | .hbm, ⟨47, _⟩ => ⟨S2x8194x1024, .f32⟩
  | .hbm, ⟨48, _⟩ => ⟨S2x8192x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S_, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S1x1024, .f32⟩
  | .hbm, ⟨59, _⟩ => ⟨S1024, .f32⟩
  | .hbm, ⟨60, _⟩ => ⟨S1x1x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S1x1024, .f32⟩
  | .hbm, ⟨66, _⟩ => ⟨S1024, .f32⟩
  | .hbm, ⟨67, _⟩ => ⟨S1x1x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S1x1024, .f32⟩
  | .hbm, ⟨74, _⟩ => ⟨S1024, .f32⟩
  | .hbm, ⟨75, _⟩ => ⟨S2x8192x1024, .f32⟩
  | .hbm, ⟨76, _⟩ => ⟨S_, .f32⟩
  | .hbm, ⟨77, _⟩ => ⟨S2x8192, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S_, .f32⟩
  | .hbm, ⟨83, _⟩ => ⟨S2x8192x1, .f32⟩
  | .hbm, ⟨84, _⟩ => ⟨S2x8192x1, .f32⟩
  | .hbm, ⟨85, _⟩ => ⟨S2x8192x1, .f32⟩
  | .hbm, ⟨86, _⟩ => ⟨S2x8192x1024, .f32⟩
  | .hbm, ⟨87, _⟩ => ⟨S2x8192x1024, .f32⟩
  | .hbm, ⟨88, _⟩ => ⟨S1x1x1024, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_4 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩

abbrev nD : Nat := 1
abbrev τ : Topo := Topo.v7x

variable {F : FTy → Type} [FloatOps F]
-- ==== Proof.IRunA.lean ====
/- The attention kernel's body run once, at the first block of a sequence, where the kernel first sets the kept keys and values to zero. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 4000000 in
/-- What one run of the body leaves, at the first block of a sequence, where the kernel first sets the kept keys and values to zero: the pieces written into the output's block and into the two
    carried scratches, with the proof that the body runs to its end and leaves exactly these. The context
    scratch is written whole by the loop over query groups before it is read, so what it held at the start
    does not matter (`hv`). -/
noncomputable def kernelRun0_A (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) :
    Σ' (L6 : List (View.Piece (Elt F) S1x512x1024 .f32)), Σ' (LS1 : List (View.Piece (Elt F) S1024x1024 .bf16)), { LS2 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ d, owns (c : Thread nD τ) arg12 fullShare d) ∗ (∃ d, owns (c : Thread nD τ) arg13 fullShare d)) -∗ K ⟨⟩))
          ⊢ wp frame (wpE (defs₀ (F := F)) Variants.none c none) E (cc0_attn_mixer i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attn_mixer_eq_skeleton]; unfold cc0_attn_mixer_skel
    simp only [k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    have hrd0 : ∀ (𝒱 : Variants) (c : Dev nD) (bd : Option 𝒱.V) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (v18 : FVec F S1x1024 .f32) (v20 : FVec F S1x1024 .f32) (v33 : FVec F S512x1024 .f32) (X_arg6 : BufTy.Contents (Elt F) arg6.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty) (hrdF : BufTy.Contents (Elt F) arg12.view.ty) (hrdB : LoadRect S512x1024), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (Scf.trips k0_t1_loop.lb k0_t1_loop.ub k0_t1_loop.st)) S128x128.size (by sl_kernel_rfl) (hrdB.idx hrdJ))
    sl_exec (disch := first | sl_exact hc0)
    sl_step
    iapply Hk
    have hv : _root_.Cert.KernelIdeal.Attn.kernelRun0_A.sl.v65 c i arg2 harg2 arg3 harg3 arg4 harg4 arg5 harg5 arg6 harg6 arg7 harg7 arg8 harg8 arg9 harg9 arg10 harg10 arg11 harg11 arg12 harg12 arg13 harg13 x0 x1 x2 x3 x4 fs3 = _root_.Cert.KernelIdeal.Attn.kernelRun0_A.sl.v65 c i arg2 harg2 arg3 harg3 arg4 harg4 arg5 harg5 arg6 harg6 arg7 harg7 arg8 harg8 arg9 harg9 arg10 harg10 arg11 harg11 arg12 harg12 arg13 harg13 x0 x1 x2 x3 x4 arg12.view.junk := by
      unfold _root_.Cert.KernelIdeal.Attn.kernelRun0_A.sl.v65
      rw [hrd0, hrd0]
    have hr : _root_.Cert.KernelIdeal.Attn.kernelRun0_A.sl.r_4 c i arg2 harg2 arg3 harg3 arg4 harg4 arg5 harg5 arg6 harg6 arg7 harg7 arg8 harg8 arg9 harg9 arg10 harg10 arg11 harg11 arg12 harg12 arg13 harg13 x0 x1 x2 x3 x4 x5 fs3 = _root_.Cert.KernelIdeal.Attn.kernelRun0_A.sl.r_4 c i arg2 harg2 arg3 harg3 arg4 harg4 arg5 harg5 arg6 harg6 arg7 harg7 arg8 harg8 arg9 harg9 arg10 harg10 arg11 harg11 arg12 harg12 arg13 harg13 x0 x1 x2 x3 x4 x5 arg12.view.junk := by
      unfold _root_.Cert.KernelIdeal.Attn.kernelRun0_A.sl.r_4
      rw [hv]
    clear hv hrd0
    generalize _root_.Cert.KernelIdeal.Attn.kernelRun0_A.sl.r_4 c i arg2 harg2 arg3 harg3 arg4 harg4 arg5 harg5 arg6 harg6 arg7 harg7 arg8 harg8 arg9 harg9 arg10 harg10 arg11 harg11 arg12 harg12 arg13 harg13 x0 x1 x2 x3 x4 x5 fs3 = q at hr ⊢
    subst hr
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _, _; isplitr; swap; · iexact HS0
      ipureintro; rfl
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

end Cert.KernelIdeal.Attn

end
-- ==== Proof.IRunB.lean ====
/- The attention kernel's body run once, at a later block, where the kept keys and values are those the block before left. -/
module

public import proofs.«01_k».proof.Proof.IRunA

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 4000000 in
/-- What one run of the body leaves, at a later block, where the kept keys and values are those the block before left: the pieces written into the output's block and into the two
    carried scratches, with the proof that the body runs to its end and leaves exactly these. The context
    scratch is written whole by the loop over query groups before it is read, so what it held at the start
    does not matter (`hv`). -/
noncomputable def kernelRun0_B (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : ¬cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (xs1 : Vec F S1024x1024 .bf16) (xs2 : Vec F S1024x1024 .bf16) :
    Σ' (L6 : List (View.Piece (Elt F) S1x512x1024 .f32)), Σ' (LS1 : List (View.Piece (Elt F) S1024x1024 .bf16)), { LS2 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ d, owns (c : Thread nD τ) arg12 fullShare d) ∗ (∃ d, owns (c : Thread nD τ) arg13 fullShare d)) -∗ K ⟨⟩))
          ⊢ wp frame (wpE (defs₀ (F := F)) Variants.none c none) E (cc0_attn_mixer i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_attn_mixer_eq_skeleton]; unfold cc0_attn_mixer_skel
    simp only [k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, ⟨%fs2, %hfs2, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1; obtain rfl := harg11.eq_unread hfs2
    have hrd0 : ∀ (𝒱 : Variants) (c : Dev nD) (bd : Option 𝒱.V) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (v18 : FVec F S1x1024 .f32) (v20 : FVec F S1x1024 .f32) (v33 : FVec F S512x1024 .f32) (X_arg6 : BufTy.Contents (Elt F) arg6.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty) (hrdF : BufTy.Contents (Elt F) arg12.view.ty) (hrdB : LoadRect S512x1024), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (Scf.trips k0_t1_loop.lb k0_t1_loop.ub k0_t1_loop.st)) S128x128.size (by sl_kernel_rfl) (hrdB.idx hrdJ))
    sl_exec (disch := first | sl_exact hc0)
    sl_step
    iapply Hk
    have hv : _root_.Cert.KernelIdeal.Attn.kernelRun0_B.sl.v65 c i arg2 harg2 arg3 harg3 arg4 harg4 arg5 harg5 arg6 harg6 arg7 harg7 arg8 harg8 arg9 harg9 arg10 harg10 arg11 harg11 arg12 harg12 arg13 harg13 x0 x1 x2 x3 x4 xs1 xs2 fs3 = _root_.Cert.KernelIdeal.Attn.kernelRun0_B.sl.v65 c i arg2 harg2 arg3 harg3 arg4 harg4 arg5 harg5 arg6 harg6 arg7 harg7 arg8 harg8 arg9 harg9 arg10 harg10 arg11 harg11 arg12 harg12 arg13 harg13 x0 x1 x2 x3 x4 xs1 xs2 arg12.view.junk := by
      unfold _root_.Cert.KernelIdeal.Attn.kernelRun0_B.sl.v65
      rw [hrd0, hrd0]
    have hr : _root_.Cert.KernelIdeal.Attn.kernelRun0_B.sl.r_4 c i arg2 harg2 arg3 harg3 arg4 harg4 arg5 harg5 arg6 harg6 arg7 harg7 arg8 harg8 arg9 harg9 arg10 harg10 arg11 harg11 arg12 harg12 arg13 harg13 x0 x1 x2 x3 x4 x5 xs1 xs2 fs3 = _root_.Cert.KernelIdeal.Attn.kernelRun0_B.sl.r_4 c i arg2 harg2 arg3 harg3 arg4 harg4 arg5 harg5 arg6 harg6 arg7 harg7 arg8 harg8 arg9 harg9 arg10 harg10 arg11 harg11 arg12 harg12 arg13 harg13 x0 x1 x2 x3 x4 x5 xs1 xs2 arg12.view.junk := by
      unfold _root_.Cert.KernelIdeal.Attn.kernelRun0_B.sl.r_4
      rw [hv]
    clear hv hrd0
    generalize _root_.Cert.KernelIdeal.Attn.kernelRun0_B.sl.r_4 c i arg2 harg2 arg3 harg3 arg4 harg4 arg5 harg5 arg6 harg6 arg7 harg7 arg8 harg8 arg9 harg9 arg10 harg10 arg11 harg11 arg12 harg12 arg13 harg13 x0 x1 x2 x3 x4 x5 xs1 xs2 fs3 = q at hr ⊢
    subst hr
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _, _; isplitr; swap; · iexact HS0
      ipureintro; rfl
    isplitl [HS1]; · iexists _; iexact HS1
    isplitl [HS2]; · iexists _; iexact HS2
    isplitl [HS3]
    · iexists _, _; isplitr; swap; · iexact HS3
      ipureintro; rfl
    iexists _, _; isplitr; swap; · iexact HS4
    ipureintro; rfl

end Cert.KernelIdeal.Attn

end
-- ==== Proof.IFrame.lean ====
/- The attention kernel run over its whole grid: what the output and the carried scratches hold after each block,
   that the whole program runs, and that it leaves its arguments as they were. -/
module

public import proofs.«01_k».proof.Proof.IRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 6 tile its block (1 store of `S1x512x1024`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).1 S1x512x1024.size (by sl_kernel_rfl) y

/-- What case A leaves in output 6's staging buffer: its pieces read back over junk. -/
def out0_A_6 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) : Vec F S1x512x1024 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).1)

/-- Case A's pieces for scratch `arg10`, which the kernel carries between points, cover it: 3 pieces of `S512x1024` tiling it (Lib/Ring.lean `Piece.tiledL`). -/
theorem scover0_A_1 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.1 S512x1024.size (by sl_kernel_rfl) y

/-- What case A leaves in scratch `arg10`: its pieces read back over junk. -/
def sout0_A_1 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) : Vec F S1024x1024 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.1)

/-- Case A's pieces for scratch `arg11`, which the kernel carries between points, cover it: 3 pieces of `S512x1024` tiling it (Lib/Ring.lean `Piece.tiledL`). -/
theorem scover0_A_2 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.2.1 S512x1024.size (by sl_kernel_rfl) y

/-- What case A leaves in scratch `arg11`: its pieces read back over junk. -/
def sout0_A_2 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) : Vec F S1024x1024 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5).2.2.1)

/-- Case B's pieces for output 6 tile its block (1 store of `S1x512x1024`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : ¬cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (xs1 : Vec F S1024x1024 .bf16) (xs2 : Vec F S1024x1024 .bf16) (y : S1x512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs1 xs2).1 S1x512x1024.size (by sl_kernel_rfl) y

/-- What case B leaves in output 6's staging buffer: its pieces read back over junk. -/
def out0_B_6 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : ¬cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (xs1 : Vec F S1024x1024 .bf16) (xs2 : Vec F S1024x1024 .bf16) : Vec F S1x512x1024 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs1 xs2).1)

/-- Case B's pieces for scratch `arg10`, which the kernel carries between points, cover it: 2 pieces of `S512x1024` tiling it (Lib/Ring.lean `Piece.tiledL`). -/
theorem scover0_B_1 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : ¬cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (xs1 : Vec F S1024x1024 .bf16) (xs2 : Vec F S1024x1024 .bf16) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs1 xs2).2.1 S512x1024.size (by sl_kernel_rfl) y

/-- What case B leaves in scratch `arg10`: its pieces read back over junk. -/
def sout0_B_1 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : ¬cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (xs1 : Vec F S1024x1024 .bf16) (xs2 : Vec F S1024x1024 .bf16) : Vec F S1024x1024 .bf16 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs1 xs2).2.1)

/-- Case B's pieces for scratch `arg11`, which the kernel carries between points, cover it: 2 pieces of `S512x1024` tiling it (Lib/Ring.lean `Piece.tiledL`). -/
theorem scover0_B_2 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : ¬cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (xs1 : Vec F S1024x1024 .bf16) (xs2 : Vec F S1024x1024 .bf16) (y : S1024x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs1 xs2).2.2.1 S512x1024.size (by sl_kernel_rfl) y

/-- What case B leaves in scratch `arg11`: its pieces read back over junk. -/
def sout0_B_2 (c : Dev nD) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (hc0 : ¬cond0_0 i)
    (x0 : Vec F S1x512x1024 .f32) (x1 : Vec F S1x3x1024 .f32) (x2 : Vec F S2x1024 .f32) (x3 : Vec F S1024x3072 .bf16) (x4 : Vec F S8x256x640 .f32) (x5 : Vec F S1024x1024 .bf16) (xs1 : Vec F S1024x1024 .bf16) (xs2 : Vec F S1024x1024 .bf16) : Vec F S1024x1024 .bf16 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 xs1 xs2).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x1024 .f32 × Vec F S1024x1024 .bf16 × Vec F S1024x1024 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 16 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.1) ∗ owns (c : Thread nD τ) scM0_2 fullShare ((outsAt0 m c (n - 1) (by omega)).2.2) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases hz : t.val = 0
    · rw [PhiS_castSucc m c t, PhiS_zero m c _ _ hz, PhiA0_eq]
      rw [outsAt0_A m c t h0]
      unfold out0_A_6 sout0_A_1 sout0_A_2; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e6, H6⟩, HS0, ⟨%es1, HS1⟩, ⟨%es2, HS2⟩, HS3, HS4⟩
      isplitl [HS0 HS1 HS2 HS3 HS4 Hg]
      · isplitl [HS0 HS1 HS2 HS3 HS4]
        · isplitl [HS0]
          · iexact HS0
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_6 sout0_A_1 sout0_A_2; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexists _; iexact HS1
      isplitl [HS2]; · iexists _; iexact HS2
      isplitl [HS3]; · iexact HS3
      isplitl [HS4]; · iexact HS4
      iintro ⟨H0, H1, H2, H3, H4, H5, ⟨%e6, H6⟩, HS0, ⟨%es1, HS1⟩, ⟨%es2, HS2⟩, HS3, HS4⟩
      isplitl [HS0 HS1 HS2 HS3 HS4 Hg]
      · isplitl [HS0 HS1 HS2 HS3 HS4]
        · isplitl [HS0]
          · iexact HS0
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _)
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_6 sout0_B_1 sout0_B_2; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e6, H6⟩, HS0, ⟨%es1, HS1⟩, ⟨%es2, HS2⟩, HS3, HS4⟩
      isplitl [HS0 HS1 HS2 HS3 HS4 Hg]
      · isplitl [HS0 HS1 HS2 HS3 HS4]
        · isplitl [HS0]
          · iexact HS0
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _)
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexists _; iexact HS1
    isplitl [HS2]
    · iexists _; iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Attn

end
-- ==== Proof.Rows.lean ====
/-
  The row arithmetic the three calls share, as plain functions on the extended reals: the mean square of a row of 1024
  entries, the factor it is scaled by, the normalised and modulated row a mixer reads, and the row the residual adds.
-/
module

public import Idealize.ShloMosaic.Lib.Pipeline.Value
public import Idealize.ShloMosaic.Lib.Pointwise
public import Idealize.ShloMosaic.Lib.IdealHost

@[expose] public section

noncomputable section

open Idealize.ShloMosaic

namespace Cert.Rows

/-- The number of entries of a row, as the programs write it. -/
abbrev rowLen : EReal := Ideal.ofBits .f32 0x44800000#32
/-- The small number added under the root, as the programs write it. -/
abbrev eps : EReal := Ideal.ofBits .f32 0x358637BD#32

/-- What a row is multiplied by: one over the root of its mean square plus `eps`. -/
def rscale (x : Fin 1024 → EReal) : EReal := Ideal.rsqrt (Ideal.div (∑ k, x k * x k) rowLen + eps)

/-- The row a mixer reads: `x` normalised, times its gain, scaled by `1 + scale` and shifted. -/
def pre (x gain scale shift : Fin 1024 → EReal) (j : Fin 1024) : EReal :=
  x j * rscale x * gain j * (1 + scale j) + shift j

/-- The row the call returns: `x` plus the gate times the mixer's row `y`, normalised and times its gain. -/
def post (x y gain gate : Fin 1024 → EReal) (j : Fin 1024) : EReal :=
  x j + gate j * (y j * rscale y * gain j)

/-- One gated unit of the feed-forward: column `k` of the first half of `h · w`, times its logistic, times column `k` of the
    second half. -/
def gated (h : Fin 1024 → EReal) (w : Fin 1024 → Fin 5632 → EReal) (k : Fin 2816) : EReal :=
  Ideal.div (∑ i, h i * w i ⟨k, by omega⟩) (1 + Ideal.exp (0 - ∑ i, h i * w i ⟨k, by omega⟩)) * ∑ i, h i * w i ⟨2816 + k, by omega⟩

/-- The exponential is never negative, at the infinities included. -/
theorem exp_nonneg (z : EReal) : (0 : EReal) ≤ Ideal.exp z := by
  induction z using EReal.rec with
  | bot => simp
  | top => simp
  | coe r => rw [Ideal.exp_coe]; exact_mod_cast (Real.exp_pos r).le

/-- `1 + exp z` is never zero, at the infinities included. -/
theorem one_add_exp_ne_zero (z : EReal) : (1 : EReal) + Ideal.exp z ≠ 0 :=
  (lt_of_lt_of_le zero_lt_one (le_add_of_nonneg_right (exp_nonneg z))).ne'

/-- `z` times one over `1 + exp (-z)` is `z` over `1 + exp (0 - z)`. -/
theorem mul_logistic (z : EReal) : z * Ideal.div 1 (1 + Ideal.exp (-z)) = Ideal.div z (1 + Ideal.exp (0 - z)) := by
  rw [zero_sub, Ideal.mul_one_div (one_add_exp_ne_zero _)]

end Cert.Rows

end
-- ==== Proof.Ffn.lean ====
module

public import proofs.«01_k».proof.Defs
public import proofs.«01_k».proof.Proof.Rows
public import proofs.«01_k».proof.Proof.Gen.KFfnIdeal.Frame
public import proofs.«01_k».proof.Proof.Gen.RFfnIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KFfnIdeal.Val

open Cert.KFfnIdeal Cert.KFfnIdeal.Gen Cert.Rows

/-- The gated units of a tile: row `r` of the normalised and modulated tile times the first weight, gated. -/
theorem pay3_apply (v0 : Vec Ideal S1x512x1024 .f32) (v2 v4 : Vec Ideal S1x1x1024 .f32) (v6 : Vec Ideal S1x1024 .f32)
    (v26 : Vec Ideal S1024x5632 .bf16) (r : Fin 512) (j : Fin 2816) :
    k0_pay3 (F := Ideal) v0 v2 v4 v6 v26 (ix2 r j)
      = gated (pre (fun k => v0 (ix3 0 r k)) (fun k => v6 (ix2 0 k)) (fun k => v4 (ix3 0 0 k)) (fun k => v2 (ix3 0 0 k)))
          (fun i k => v26 (ix2 i k)) j := by
  pointwise [k0_pay3, k0_pay2]
  rfl

/-- The tile the call stores: the residual plus the gated, normalised product with the second weight. -/
theorem pay1_apply (v1 : FVec Ideal S512x1024 .f32) (v37 : FVec Ideal S512x2816 .f32) (v39 : Vec Ideal S2816x1024 .bf16)
    (v42 : Vec Ideal S1x1x1024 .f32) (v44 : Vec Ideal S1x1024 .f32) (r : Fin 512) (j : Fin 1024) :
    k0_pay1 (F := Ideal) v1 v37 v39 v42 v44 (ix3 0 r j)
      = post (fun k => v1 (ix2 r k)) (fun k => ∑ i, v37 (ix2 r i) * v39 (ix2 i k)) (fun k => v44 (ix2 0 k))
          (fun k => v42 (ix3 0 0 k)) j := by
  pointwise [k0_pay1]
  rfl

end Cert.KFfnIdeal.Val

namespace Cert.RFfnIdeal.Val

open Cert.RFfnIdeal Cert.RFfnIdeal.Gen Cert.RFfnIdeal.Read Cert.Rows

/-- The result of the feed-forward sublayer at batch `b`, position `s`, column `j`, from the arrays. -/
def ffn (x : Vec Ideal S2x8192x1024 .f32) (md : Vec Ideal S2x3x1024 .f32) (g : Vec Ideal S2x1024 .f32)
    (w : Vec Ideal S1024x5632 .f32) (w' : Vec Ideal S2816x1024 .f32) (b : Fin 2) (s : Fin 8192) (j : Fin 1024) : EReal :=
  post (fun k => x (ix3 b s k))
    (fun k => ∑ i, gated (pre (fun k => x (ix3 b s k)) (fun k => g (ix2 0 k)) (fun k => md (ix3 b 1 k)) (fun k => md (ix3 b 0 k)))
        (fun i k => w (ix2 i k)) i * w' (ix2 i k))
    (fun k => g (ix2 1 k)) (fun k => md (ix3 b 2 k)) j

/-- The reference's normalised and modulated row. -/
theorem v26_apply (x : Vec Ideal S2x8192x1024 .f32) (md : Vec Ideal S2x3x1024 .f32) (g : Vec Ideal S2x1024 .f32)
    (b : Fin 2) (s : Fin 8192) (j : Fin 1024) :
    val_main_v26 (F := Ideal) x md g (ix3 b s j)
      = pre (fun k => x (ix3 b s k)) (fun k => g (ix2 0 k)) (fun k => md (ix3 b 1 k)) (fun k => md (ix3 b 0 k)) j := by
  pointwise [val_main_v26, val_main_v25, val_main_v24, val_main_v23, val_main_v22, val_main_v21, val_main_v20, val_main_cst_2,
    val_main_v19, val_main_v18, val_main_v17, val_main_v16, val_main_v15, val_main_v14, val_main_v13, val_main_v12, val_main_v11,
    val_main_v10, val_main_v9, val_main_v8, val_main_v7, val_main_cst_1, val_main_v6, val_main_v5, val_main_cst_0, val_main_v4,
    val_main_v3, val_main_cst, val_main_v2, val_main_v1, val_main_v0]
  rfl

/-- The reference's gated units. -/
theorem v34_apply (x : Vec Ideal S2x8192x1024 .f32) (md : Vec Ideal S2x3x1024 .f32) (g : Vec Ideal S2x1024 .f32)
    (w : Vec Ideal S1024x5632 .f32) (b : Fin 2) (s : Fin 8192) (j : Fin 2816) :
    val_main_v34 (F := Ideal) x md g w (ix3 b s j)
      = gated (pre (fun k => x (ix3 b s k)) (fun k => g (ix2 0 k)) (fun k => md (ix3 b 1 k)) (fun k => md (ix3 b 0 k)))
        (fun i k => w (ix2 i k)) j := by
  unfold gated
  simp only [← v26_apply, ← mul_logistic]
  pointwise [val_main_v34, val_main_v33, val_main_call0_v5, val_main_call0_v4, val_main_call0_cst_0, val_main_call0_v3,
    val_main_call0_v2, val_main_call0_cst, val_main_call0_v1, val_main_call0_v0, val_main_v32, val_main_v31, val_main_v30]

/-- The reference's result, entry by entry. -/
theorem v53_apply (x : Vec Ideal S2x8192x1024 .f32) (md : Vec Ideal S2x3x1024 .f32) (g : Vec Ideal S2x1024 .f32)
    (w : Vec Ideal S1024x5632 .f32) (w' : Vec Ideal S2816x1024 .f32) (b : Fin 2) (s : Fin 8192) (j : Fin 1024) :
    val_main_v53 (F := Ideal) x md g w w' (ix3 b s j) = ffn x md g w w' b s j := by
  unfold ffn
  simp only [← v34_apply]
  pointwise [val_main_v53, val_main_v52, val_main_v51, val_main_v50, val_main_v49, val_main_v48, val_main_v47, val_main_v46,
    val_main_v45, val_main_v44, val_main_v43, val_main_cst_5, val_main_v42, val_main_v41, val_main_cst_4, val_main_v40,
    val_main_v39, val_main_cst_3, val_main_v38, val_main_v37, val_main_v36, val_main_v35, val_main_v29, val_main_v28, val_main_v27]
  rfl

end Cert.RFfnIdeal.Val

namespace Cert.KFfnIdeal.Val

open Cert.KFfnIdeal Cert.KFfnIdeal.Gen Cert.Rows

variable (m : (ℓ : Loc nD τ sig) → Buf (Elt Ideal) ℓ) (ρ : Dev nD → PrngReg)

/-- The whole result array of device `c`, from its argument arrays. -/
def G (c : Dev nD) : Buf (Elt Ideal) ((c.tc : Thread nD τ).loc main_v2) := fun i =>
  Cert.RFfnIdeal.Val.ffn (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (i 0) (i 1) (i 2)

/-- Which block each window reads at a point. -/
theorem idx : ∀ t : Fin grid0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![0, 0] ∧ win0_5.index t = ![(grid0.coords t 0).val, (grid0.coords t 1).val, 0] := by
  decide +kernel

/-- The result array after the run. -/
theorem final (c : Dev nD) : (dats m 0 c).arrAt 5 cfg0.N = G m c := by
  refine (dats m 0 c).arrAt_eq_of_covers 5 _ (by decide +kernel) fun t hf y => ?_
  blk_simp
  rw [after0_5]
  frame_out
  idx_vars y
  obtain rfl : y0 = (0 : Fin 1) := Subsingleton.elim _ _
  unfold G Cert.RFfnIdeal.Val.ffn
  rw [pay1_apply]
  simp only [pay3_apply]
  pointwise [k0_pay2]
  blk_point [iblk, V, idx t]

/-- What a run of the kernel leaves: the result array at `G`, the arguments as they were. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from Gen.run_main m ρ
  exact final m c

end Cert.KFfnIdeal.Val

namespace Cert.Proof.FfnClaims

/-- The feed-forward kernel and the reference's lines leave the same result array. -/
theorem algebraic : Cert.algebraic_KFfnIdeal_RFfnIdeal := by
  intro m ρ m' ρ' _ hag
  refine ⟨fun c => Cert.KFfnIdeal.Val.G m c, Cert.KFfnIdeal.Val.run m ρ, ?_⟩
  refine (θ_run Cert.RFfnIdeal.defs _ _).mono (fun _ h c => ⟨(h c).1.trans ?_, (h c).2⟩) (Cert.RFfnIdeal.Value.run (F := Ideal) m' ρ')
  rw [Cert.RFfnIdeal.Read.val_main_v53_eq, (hag c).1, (hag c).2.1, (hag c).2.2.1, (hag c).2.2.2.1, (hag c).2.2.2.2]
  funext i
  idx_vars i
  exact Cert.RFfnIdeal.Val.v53_apply _ _ _ _ _ _ _ _

end Cert.Proof.FfnClaims
end
-- ==== Proof.Pieces.lean ====
module

public import Idealize.ShloMosaic.Lib.WritesUnit
public import Idealize.ShloMosaic.Lib.Pipeline.ValueKit

/-!
Reading one element of a buffer that was written in several rectangles: the newest rectangle holding the element decides.
-/

@[expose] public section

namespace Cert.Pieces

open Idealize.ShloMosaic

variable {s : Shape} {e : EltTy} {Val : EltTy → Type} [∀ e, Nonempty (Val e)]

/-- An element at place `x` of the newest rectangle has that rectangle's value at `x`. -/
theorem canon_hit {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  subst hy
  exact View.canon_cons_emb _ w L x

/-- An element that some axis keeps out of the newest rectangle has the value the older rectangles give. -/
theorem canon_miss {off size : Fin s.rank → ℕ} (inb : ∀ a, off a + size a ≤ s.size a)
    (w : (Rect.unit off size inb).shape.Idx → Val e) (L : List (View.Piece Val s e)) (y : s.Idx) (a : Fin s.rank)
    (ha : (y a).val < off a ∨ off a + size a ≤ (y a).val) :
    View.canon ((⟨Rect.unit off size inb, w⟩ : View.Piece Val s e) :: L) y = View.canon L y := by
  refine View.canon_cons_of_not_mem _ L ?_
  rw [Rect.mem_set_unit]
  intro hall
  have := hall a
  omega

/-- A load of a rectangle from a buffer known by its writes reads element by element what the writes left there. -/
theorem readCov_unit {sig : RefSig} {κ : Kind} {sp : Space} (v : View sig κ sp s e) (L : List (View.Piece Val s e))
    {off size : Fin s.rank → ℕ} (inb : ∀ a, off a + size a ≤ s.size a) (x : (Rect.unit off size inb).shape.Idx) (y : s.Idx)
    (hx : ∀ a, (y a).val = off a + (x a).val) :
    v.readCov L (Rect.unit off size inb).toLoadRect x = View.canon L y := by
  rw [View.readCov_eq_canon']
  refine congrArg (View.canon L) (funext fun a => Fin.ext ?_)
  show off a + 1 * (x a).val = (y a).val
  rw [hx a, Nat.one_mul]

omit [∀ e, Nonempty (Val e)] in
/-- A load of a rectangle reads element by element the elements at the rectangle's places. -/
theorem ld_unit (f : s.Idx → Val e) {off size : Fin s.rank → ℕ} (inb : ∀ a, off a + size a ≤ s.size a)
    (x : (Rect.unit off size inb).shape.Idx) (y : s.Idx) (hx : ∀ a, (y a).val = off a + (x a).val) :
    View.ld f (Rect.unit off size inb) x = f y := by
  refine congrArg f (funext fun a => Fin.ext ?_)
  show off a + 1 * (x a).val = (y a).val
  rw [hx a, Nat.one_mul]

end Cert.Pieces
-- ==== Proof.Conv.lean ====
module

public import proofs.«01_k».proof.Defs
public import proofs.«01_k».proof.Proof.Rows
public import proofs.«01_k».proof.Proof.Pieces
public import proofs.«01_k».proof.Proof.Gen.KConvIdeal.Frame
public import proofs.«01_k».proof.Proof.Gen.RConvIdeal.Read
public import Idealize.ShloMosaic.Lib.Pointwise
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RConvIdeal.Val

open Cert.RConvIdeal Cert.RConvIdeal.Gen Cert.RConvIdeal.Read Cert.Rows

section Spec

variable (x : Vec Ideal S2x8192x1024 .f32) (md : Vec Ideal S2x3x1024 .f32) (g : Vec Ideal S2x1024 .f32)
  (w : Vec Ideal S1024x3072 .f32) (cw : Vec Ideal S3x1024 .f32) (w' : Vec Ideal S1024x1024 .f32)

/-- Column `k` of the input projection at batch `b`, position `s`: the normalised, modulated row times the first weight. -/
def proj (b : Fin 2) (s : Fin 8192) (k : Fin 3072) : EReal :=
  ∑ i, pre (fun k => x (ix3 b s k)) (fun k => g (ix2 0 k)) (fun k => md (ix3 b 1 k)) (fun k => md (ix3 b 0 k)) i * w (ix2 i k)

/-- The convolved quantity: the second third of the projection times the last third. -/
def unit (b : Fin 2) (s : Fin 8192) (j : Fin 1024) : EReal :=
  proj x md g w b s ⟨1024 + j.val, by omega⟩ * proj x md g w b s ⟨2048 + j.val, by omega⟩

/-- The convolved quantity `n` positions earlier, zero before the first position. -/
def past (n : ℕ) (b : Fin 2) (s : Fin 8192) (j : Fin 1024) : EReal :=
  if n ≤ s.val then unit x md g w b ⟨s.val - n, by omega⟩ j else 0

/-- The gated causal convolution of width three. -/
def mixed (b : Fin 2) (s : Fin 8192) (j : Fin 1024) : EReal :=
  proj x md g w b s ⟨j.val, by omega⟩ * (cw (ix2 2 j) * unit x md g w b s j + cw (ix2 1 j) * past x md g w 1 b s j
    + cw (ix2 0 j) * past x md g w 2 b s j)

/-- The result of the convolution sublayer at batch `b`, position `s`, column `j`, from the arrays. -/
def conv (b : Fin 2) (s : Fin 8192) (j : Fin 1024) : EReal :=
  post (fun k => x (ix3 b s k)) (fun k => ∑ i, mixed x md g w cw b s i * w' (ix2 i k))
    (fun k => g (ix2 1 k)) (fun k => md (ix3 b 2 k)) j

/-- The reference's normalised and modulated row. -/
theorem v26_apply (b : Fin 2) (s : Fin 8192) (j : Fin 1024) :
    val_main_v26 (F := Ideal) x md g (ix3 b s j)
      = pre (fun k => x (ix3 b s k)) (fun k => g (ix2 0 k)) (fun k => md (ix3 b 1 k)) (fun k => md (ix3 b 0 k)) j := by
  pointwise [val_main_v26, val_main_v25, val_main_v24, val_main_v23, val_main_v22, val_main_v21, val_main_v20, val_main_cst_2,
    val_main_v19, val_main_v18, val_main_v17, val_main_v16, val_main_v15, val_main_v14, val_main_v13, val_main_v12, val_main_v11,
    val_main_v10, val_main_v9, val_main_v8, val_main_v7, val_main_cst_1, val_main_v6, val_main_v5, val_main_cst_0, val_main_v4,
    val_main_v3, val_main_cst, val_main_v2, val_main_v1, val_main_v0]
  rfl

/-- The reference's input projection. -/
theorem v30_apply (b : Fin 2) (s : Fin 8192) (k : Fin 3072) :
    val_main_v30 (F := Ideal) x md g w (ix3 b s k) = proj x md g w b s k := by
  unfold proj
  simp only [← v26_apply]
  pointwise [val_main_v30]

/-- The reference's convolved quantity. -/
theorem v34_apply (b : Fin 2) (s : Fin 8192) (j : Fin 1024) :
    val_main_v34 (F := Ideal) x md g w (ix3 b s j) = unit x md g w b s j := by
  unfold unit
  simp only [← v30_apply]
  pointwise [val_main_v34, val_main_v33, val_main_v32]

/-- The integer zero the padding converts is zero. -/
theorem sitofp_zero : FloatOps.sitofp (F := Ideal) FTy.f32 (0#32 : BitVec 32) = (0 : EReal) := by
  show ((((0#32 : BitVec 32).toInt : ℤ) : ℝ) : EReal) = 0
  simp

/-- The reference's padded array: two positions of zeros, then the convolved quantity. -/
theorem v35_apply (b : Fin 2) (s : Fin 8194) (j : Fin 1024) :
    val_main_v35 (F := Ideal) x md g w (ix3 b s j)
      = if h : 2 ≤ s.val then unit x md g w b ⟨s.val - 2, by omega⟩ j else 0 := by
  simp only [← v34_apply]
  pointwise [val_main_v35, val_main_call0_v0, val_main_c]
  by_cases h : 2 ≤ s.val
  · rw [dif_pos ⟨h, by omega⟩, dif_pos h]
  · rw [dif_neg (fun h' => h h'.1), dif_neg h]
    exact sitofp_zero

/-- A slice of the padded array that starts `o` positions in reads the convolved quantity `2 - o` positions earlier. -/
theorem pad_past (n o : ℕ) (hn : o + n = 2) (b : Fin 2) (s : Fin 8192) (j : Fin 1024) :
    val_main_v35 (F := Ideal) x md g w (ix3 b ⟨o + s.val, by omega⟩ j) = past x md g w n b s j := by
  rw [v35_apply]
  unfold past
  by_cases h : n ≤ s.val
  · rw [dif_pos (by show 2 ≤ o + s.val; omega), if_pos h]
    congr 1
    apply Fin.ext
    show o + s.val - 2 = s.val - n
    omega
  · rw [dif_neg (by show ¬ 2 ≤ o + s.val; omega), if_neg h]

/-- The reference's gated convolution. -/
theorem v58_apply (b : Fin 2) (s : Fin 8192) (j : Fin 1024) :
    val_main_v58 (F := Ideal) x md g w cw (ix3 b s j) = mixed x md g w cw b s j := by
  unfold mixed
  rw [← v30_apply, ← pad_past x md g w 1 1 rfl, ← pad_past x md g w 2 0 rfl, ← v34_apply]
  rw [show val_main_v34 (F := Ideal) x md g w (ix3 b s j) = val_main_v35 (F := Ideal) x md g w (ix3 b ⟨2 + s.val, by omega⟩ j) by
    rw [v35_apply, dif_pos (by show 2 ≤ 2 + s.val; omega), v34_apply]; congr 1; apply Fin.ext; show s.val = 2 + s.val - 2; omega]
  pointwise [val_main_v58, val_main_v57, val_main_v56, val_main_v55, val_main_v54, val_main_v53, val_main_v52, val_main_v51,
    val_main_v50, val_main_v49, val_main_v48, val_main_v47, val_main_v46, val_main_v45, val_main_v44, val_main_v43, val_main_v42,
    val_main_cst_3, val_main_v41, val_main_v40, val_main_v39, val_main_v38, val_main_v37, val_main_v36, val_main_v31]
  rw [mul_comm (cw (ix2 2 j)), mul_comm (cw (ix2 1 j)), mul_comm (cw (ix2 0 j))]
  congr 1
  abel

/-- The reference's result, entry by entry. -/
theorem v77_apply (b : Fin 2) (s : Fin 8192) (j : Fin 1024) :
    val_main_v77 (F := Ideal) x md g w cw w' (ix3 b s j) = conv x md g w cw w' b s j := by
  unfold conv
  simp only [← v58_apply]
  pointwise [val_main_v77, val_main_v76, val_main_v75, val_main_v74, val_main_v73, val_main_v72, val_main_v71, val_main_v70,
    val_main_v69, val_main_v68, val_main_v67, val_main_cst_6, val_main_v66, val_main_v65, val_main_cst_5, val_main_v64,
    val_main_v63, val_main_cst_4, val_main_v62, val_main_v61, val_main_v60, val_main_v59, val_main_v29, val_main_v28, val_main_v27]
  rfl

end Spec

end Cert.RConvIdeal.Val

namespace Cert.KConvIdeal.Val

open Cert.KConvIdeal Cert.KConvIdeal.Gen Cert.Rows

/-- The input projection of a tile. -/
theorem pay5_apply (v3 : Vec Ideal S1x512x1024 .f32) (v5 v7 : Vec Ideal S1x1x1024 .f32) (v9 : Vec Ideal S1x1024 .f32)
    (v29 : Vec Ideal S1024x3072 .bf16) (r : Fin 512) (k : Fin 3072) :
    k0_pay5 (F := Ideal) v3 v5 v7 v9 v29 (ix2 r k)
      = ∑ i, pre (fun k => v3 (ix3 0 r k)) (fun k => v9 (ix2 0 k)) (fun k => v7 (ix3 0 0 k)) (fun k => v5 (ix3 0 0 k)) i
          * v29 (ix2 i k) := by
  pointwise [k0_pay5, k0_pay4]
  rfl

/-- The tile the call stores: the residual plus the normalised product of the gated convolution with the second weight. -/
theorem pay1_apply (v4 v32 v35 v42 v47 : FVec Ideal S512x1024 .f32) (v39 v43 v48 v59 : Vec Ideal S1x1024 .f32)
    (v54 : Vec Ideal S1024x1024 .bf16) (v57 : Vec Ideal S1x1x1024 .f32) (r : Fin 512) (j : Fin 1024) :
    k0_pay1 (F := Ideal) v4 (k0_pay9 v32 v35 v39 v42 v43 v47 v48 v54 v59) (k0_pay10 v57) (ix3 0 r j)
      = post (fun k => v4 (ix2 r k)) (fun k => ∑ i, v32 (ix2 r i) * (v39 (ix2 0 i) * v35 (ix2 r i)
          + v43 (ix2 0 i) * v42 (ix2 r i) + v48 (ix2 0 i) * v47 (ix2 r i)) * v54 (ix2 i k)) (fun k => v59 (ix2 0 k))
          (fun k => v57 (ix3 0 0 k)) j := by
  pointwise [k0_pay1, k0_pay9, k0_pay10]
  rfl

/-- `pay1_apply` with every operand's entries told by name. -/
theorem pay1_of (v4 v32 v35 v42 v47 : FVec Ideal S512x1024 .f32) (v39 v43 v48 v59 : Vec Ideal S1x1024 .f32)
    (v54 : Vec Ideal S1024x1024 .bf16) (v57 : Vec Ideal S1x1x1024 .f32) (r : Fin 512) (j : Fin 1024)
    {x p u u1 u2 c2 c1 c0 gn gt : Fin 1024 → EReal} {w : Fin 1024 → Fin 1024 → EReal} (h4 : ∀ k, v4 (ix2 r k) = x k)
    (h32 : ∀ k, v32 (ix2 r k) = p k) (h35 : ∀ k, v35 (ix2 r k) = u k) (h42 : ∀ k, v42 (ix2 r k) = u1 k)
    (h47 : ∀ k, v47 (ix2 r k) = u2 k) (h39 : ∀ k, v39 (ix2 0 k) = c2 k) (h43 : ∀ k, v43 (ix2 0 k) = c1 k)
    (h48 : ∀ k, v48 (ix2 0 k) = c0 k) (h59 : ∀ k, v59 (ix2 0 k) = gn k) (h54 : ∀ i k, v54 (ix2 i k) = w i k)
    (h57 : ∀ k, v57 (ix3 0 0 k) = gt k) :
    k0_pay1 (F := Ideal) v4 (k0_pay9 v32 v35 v39 v42 v43 v47 v48 v54 v59) (k0_pay10 v57) (ix3 0 r j)
      = post x (fun k => ∑ i, p i * (c2 i * u i + c1 i * u1 i + c0 i * u2 i) * w i k) gn gt j := by
  rw [pay1_apply]
  simp only [h4, h32, h35, h42, h47, h39, h43, h48, h59, h54, h57]

variable (m : (ℓ : Loc nD τ sig) → Buf (Elt Ideal) ℓ) (ρ : Dev nD → PrngReg)

/-- Which block of each array a point reads. -/
theorem idx : ∀ t : Fin grid0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![0, 0] ∧ win0_5.index t = ![0, 0]
    ∧ win0_6.index t = ![(grid0.coords t 0).val, (grid0.coords t 1).val, 0] := by
  decide +kernel

/-- The convolved quantity at batch `b`, position `s` of device `c`'s arrays. -/
abbrev U (c : Dev nD) (b : Fin 2) (s : Fin 8192) (j : Fin 1024) : EReal :=
  Cert.RConvIdeal.Val.unit (m ((c.tc : Thread nD τ).loc main_arg0)) (m ((c.tc : Thread nD τ).loc main_arg1))
    (m ((c.tc : Thread nD τ).loc main_arg2)) (m ((c.tc : Thread nD τ).loc main_arg3)) b s j

/-- The tile of the convolved quantity a point computes. -/
abbrev tileU (c : Dev nD) (t : Fin cfg0.N) : FVec Ideal S512x1024 .f32 :=
  k0_pay7 (F := Ideal) (iblk m c 0 t)
          (View.ld (iblk m c 1 t) (Rect.unit ![0, 0, 0] ![1, 1, 1024] inb_S1x3x1024_S1x1x1024_0_0_0))
          (View.ld (iblk m c 1 t) (Rect.unit ![0, 1, 0] ![1, 1, 1024] inb_S1x3x1024_S1x1x1024_0_1_0))
          (View.ld (iblk m c 2 t) (Rect.unit ![0, 0] ![1, 1024] inb_S2x1024_S1x1024_0_0)) (iblk m c 3 t)

/-- The batch and the tile of a point. -/
theorem coords : ∀ t : Fin grid0.N, (grid0.coords t 0).val = t.val / 16 ∧ (grid0.coords t 1).val = t.val % 16 := by
  decide +kernel

/-- The position of row `r` of a point's tile. -/
abbrev pos (t : Fin cfg0.N) (r : Fin 512) : Fin 8192 := ⟨512 * (grid0.coords t 1).val + r.val, by
  have h : (grid0.coords t 1).val < 16 := (grid0.coords t 1).isLt
  omega⟩

/-- The batch of a point. -/
abbrev bat (t : Fin cfg0.N) : Fin 2 := ⟨(grid0.coords t 0).val, (grid0.coords t 0).isLt⟩

/-- The tile's entries, from the arrays. -/
theorem tileU_apply (c : Dev nD) (t : Fin cfg0.N) (r : Fin 512) (j : Fin 1024) :
    tileU m c t (ix2 r j) = U m c (bat t) (pos t r) j := by
  unfold tileU U Cert.RConvIdeal.Val.unit Cert.RConvIdeal.Val.proj
  pointwise [k0_pay7]
  simp only [pay5_apply]
  blk_point [iblk, V, idx t]

/-- The rows the first point of a batch hands to the next: the last eight rows of its own tile. -/
theorem carriedA (c : Dev nD) (t : Fin cfg0.N) (h : t.val % 16 = 0) (r : Fin 520) (hr : r.val < 8) (j : Fin 1024) :
    (outsAt0 m c t.val t.isLt).2 (ix2 r j) = tileU m c t (ix2 ⟨504 + r.val, by omega⟩ j) := by
  rw [outsAt0_A m c t h]
  dsimp only
  frame_out
  rw [Pieces.canon_hit _ _ _ _ (ix2 (⟨r.val, hr⟩ : Fin 8) j) (by intro a; fin_cases a <;> simp)]
  pointwise [k0_pay2]
  rw [Pieces.readCov_unit _ _ _ _ (ix2 (⟨512 + r.val, by omega⟩ : Fin 520) j) (by intro a; fin_cases a <;> simp),
    Pieces.canon_hit _ _ _ _ (ix2 (⟨504 + r.val, by omega⟩ : Fin 512) j) (by intro a; fin_cases a <;> simp; omega)]
  pointwise [k0_pay8]
  rfl

/-- The rows a later point of a batch hands to the next: the last eight rows of its own tile. -/
theorem carriedB (c : Dev nD) (t : Fin cfg0.N) (h : ¬ t.val % 16 = 0) (r : Fin 520) (hr : r.val < 8) (j : Fin 1024) :
    (outsAt0 m c t.val t.isLt).2 (ix2 r j) = tileU m c t (ix2 ⟨504 + r.val, by omega⟩ j) := by
  rw [outsAt0_B m c t h]
  dsimp only
  frame_out
  rw [Pieces.canon_hit _ _ _ _ (ix2 (⟨r.val, hr⟩ : Fin 8) j) (by intro a; fin_cases a <;> simp)]
  pointwise [k0_pay2]
  rw [Pieces.readCov_unit _ _ _ _ (ix2 (⟨512 + r.val, by omega⟩ : Fin 520) j) (by intro a; fin_cases a <;> simp),
    Pieces.canon_hit _ _ _ _ (ix2 (⟨504 + r.val, by omega⟩ : Fin 512) j) (by intro a; fin_cases a <;> simp; omega)]
  pointwise [k0_pay8]
  rfl

/-- The rows a point hands to the next: the last eight rows of its own tile. -/
theorem carried (c : Dev nD) (t : Fin cfg0.N) (r : Fin 520) (hr : r.val < 8) (j : Fin 1024) :
    (outsAt0 m c t.val t.isLt).2 (ix2 r j) = tileU m c t (ix2 ⟨504 + r.val, by omega⟩ j) := by
  by_cases h : t.val % 16 = 0
  · exact carriedA m c t h r hr j
  · exact carriedB m c t h r hr j

/-- The convolved quantity `n` positions before row `r` of a point's tile. -/
abbrev before (c : Dev nD) (n : ℕ) (t : Fin cfg0.N) (r : Fin 512) (j : Fin 1024) : EReal :=
  Cert.RConvIdeal.Val.past (m ((c.tc : Thread nD τ).loc main_arg0)) (m ((c.tc : Thread nD τ).loc main_arg1))
    (m ((c.tc : Thread nD τ).loc main_arg2)) (m ((c.tc : Thread nD τ).loc main_arg3)) n (bat t) (pos t r) j

/-- `before`, told by a row of the point's own tile. -/
theorem before_own (c : Dev nD) (n : ℕ) (t : Fin cfg0.N) (r : Fin 512) (j : Fin 1024) (r' : Fin 512) (h : r'.val + n = r.val) :
    before m c n t r j = tileU m c t (ix2 r' j) := by
  rw [tileU_apply]
  unfold before Cert.RConvIdeal.Val.past U
  have hn : n ≤ (pos t r).val := by show n ≤ 512 * _ + r.val; omega
  rw [if_pos hn]
  congr 1
  apply Fin.ext
  show 512 * _ + r.val - n = 512 * _ + r'.val
  omega

/-- `before` ahead of the first row of a batch. -/
theorem before_zero (c : Dev nD) (n : ℕ) (t : Fin cfg0.N) (r : Fin 512) (j : Fin 1024) (h : t.val % 16 = 0) (hn : r.val < n) :
    before m c n t r j = 0 := by
  unfold before Cert.RConvIdeal.Val.past
  have := (coords t).2
  rw [if_neg (by show ¬ n ≤ 512 * _ + r.val; omega)]

/-- `before`, told by a row of the tile before. -/
theorem before_prev (c : Dev nD) (n : ℕ) (t t' : Fin cfg0.N) (r : Fin 512) (j : Fin 1024) (r' : Fin 512) (ht : t'.val + 1 = t.val)
    (h : ¬ t.val % 16 = 0) (hr : r'.val + n = 512 + r.val) :
    before m c n t r j = tileU m c t' (ix2 r' j) := by
  rw [tileU_apply]
  unfold before Cert.RConvIdeal.Val.past U
  have h1 := (coords t).2
  have h2 := (coords t').2
  have h3 := (coords t).1
  have h4 := (coords t').1
  have hc : bat t = bat t' := Fin.ext (by show (grid0.coords t 0).val = (grid0.coords t' 0).val; omega)
  rw [if_pos (by show n ≤ 512 * _ + r.val; omega), hc]
  congr 1
  apply Fin.ext
  show 512 * _ + r.val - n = 512 * _ + r'.val
  omega

/-- At a batch's first point, a load of the scratch that starts `n` rows above the tile reads the quantity `n` positions earlier. -/
theorem shiftA (c : Dev nD) (t : Fin cfg0.N) (h : t.val % 16 = 0) (n o : ℕ) (hn : o + n = 8)
    (inb : ∀ a, (![o, 0] : Fin 2 → ℕ) a + (![512, 1024] : Fin 2 → ℕ) a ≤ S520x1024.size a) (r : Fin 512) (j : Fin 1024) :
    ((View.whole cc0_scratch0).readCov (Val := Elt Ideal)
      [⟨Rect.unit ![8, 0] ![512, 1024] inb_S520x1024_S512x1024_8_0, k0_pay8 (tileU m c t)⟩,
        ⟨Rect.unit ![0, 0] ![8, 1024] inb_S520x1024_S8x1024_0_0, k0_pay3 (F := Ideal)⟩]
      (Rect.unit (s := S520x1024) ![o, 0] ![512, 1024] inb).toLoadRect) (ix2 r j) = before m c n t r j := by
  rw [Pieces.readCov_unit _ _ _ _ (ix2 (⟨o + r.val, by omega⟩ : Fin 520) j) (by intro a; fin_cases a <;> simp)]
  by_cases hr : n ≤ r.val
  · rw [before_own m c n t r j ⟨r.val - n, by omega⟩ (by show r.val - n + n = _; omega),
      Pieces.canon_hit _ _ _ _ (ix2 (⟨r.val - n, by omega⟩ : Fin 512) j) (by intro a; fin_cases a <;> simp; omega)]
    pointwise [k0_pay8]
  · rw [before_zero m c n t r j h (by omega), Pieces.canon_miss _ _ _ _ 0 (by simp; omega),
      Pieces.canon_hit _ _ _ _ (ix2 (⟨o + r.val, by omega⟩ : Fin 8) j) (by intro a; fin_cases a <;> simp)]
    pointwise [k0_pay3]

/-- At a later point, such a load reads the same quantity, partly off the rows the point before left. -/
theorem shiftB (c : Dev nD) (t : Fin cfg0.N) (h : ¬ t.val % 16 = 0) (ht : t.val - 1 < cfg0.N) (n o : ℕ) (hn : o + n = 8)
    (inb : ∀ a, (![o, 0] : Fin 2 → ℕ) a + (![512, 1024] : Fin 2 → ℕ) a ≤ S520x1024.size a)
    (hw : (Memref.whole cc0_scratch0).IsWhole) (r : Fin 512) (j : Fin 1024) :
    View.ld
      (View.read (Elt Ideal) (View.whole cc0_scratch0)
        ((View.whole cc0_scratch0).writes (Elt Ideal) (hw.unread (outsAt0 m c (t.val - 1) ht).2)
          [⟨Rect.unit ![8, 0] ![512, 1024] inb_S520x1024_S512x1024_8_0, k0_pay8 (tileU m c t)⟩]))
      (Rect.unit (s := S520x1024) ![o, 0] ![512, 1024] inb) (ix2 r j) = before m c n t r j := by
  rw [Pieces.ld_unit _ _ _ (ix2 (⟨o + r.val, by omega⟩ : Fin 520) j) (by intro a; fin_cases a <;> simp)]
  by_cases hr : n ≤ r.val
  · rw [before_own m c n t r j ⟨r.val - n, by omega⟩ (by show r.val - n + n = _; omega),
      View.read_writes_cons_unit_of_mem _ _ _ _ _ _ (ix2 (⟨r.val - n, by omega⟩ : Fin 512) j) rfl (by intro a; fin_cases a <;> simp; omega)]
    pointwise [k0_pay8]
  · rw [before_prev m c n t ⟨t.val - 1, ht⟩ r j ⟨512 + r.val - n, by omega⟩ (by show t.val - 1 + 1 = _; omega) h
        (by show 512 + r.val - n + n = _; omega),
      View.read_writes_cons_unit_of_not_mem _ _ _ _ _ _ rfl 0 (by simp; omega)]
    refine (congrFun (hw.read_unread _) _).trans ?_
    refine (carried m c ⟨t.val - 1, ht⟩ _ (by show o + r.val < 8; omega) j).trans ?_
    congr 2
    apply Fin.ext
    show 504 + (o + r.val) = 512 + r.val - n
    omega

/-- The result at batch `b`, position `s`, column `j` of device `c`, from its argument arrays. -/
def R (c : Dev nD) (b : Fin 2) (s : Fin 8192) (j : Fin 1024) : EReal :=
  Cert.RConvIdeal.Val.conv (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) b s j

/-- The whole result array of device `c`, from its argument arrays. -/
def G (c : Dev nD) : Buf (Elt Ideal) ((c.tc : Thread nD τ).loc main_v2) := fun i => R m c (i 0) (i 1) (i 2)

/-- The first third of a tile's input projection, from the arrays. -/
theorem tileP_apply (c : Dev nD) (t : Fin cfg0.N) (r : Fin 512) (j : Fin 1024) :
    k0_pay6 (F := Ideal) (iblk m c 0 t)
          (View.ld (iblk m c 1 t) (Rect.unit ![0, 0, 0] ![1, 1, 1024] inb_S1x3x1024_S1x1x1024_0_0_0))
          (View.ld (iblk m c 1 t) (Rect.unit ![0, 1, 0] ![1, 1, 1024] inb_S1x3x1024_S1x1x1024_0_1_0))
          (View.ld (iblk m c 2 t) (Rect.unit ![0, 0] ![1, 1024] inb_S2x1024_S1x1024_0_0)) (iblk m c 3 t) (ix2 r j)
      = Cert.RConvIdeal.Val.proj (m ((c.tc : Thread nD τ).loc main_arg0)) (m ((c.tc : Thread nD τ).loc main_arg1))
          (m ((c.tc : Thread nD τ).loc main_arg2)) (m ((c.tc : Thread nD τ).loc main_arg3)) (bat t) (pos t r) ⟨j.val, by omega⟩ := by
  unfold Cert.RConvIdeal.Val.proj
  pointwise [k0_pay6]
  simp only [pay5_apply]
  blk_point [iblk, V, idx t]

/-- The tile a point stores. -/
theorem out (c : Dev nD) (t : Fin cfg0.N) (r : Fin 512) (j : Fin 1024) :
    (outsAt0 m c t.val t.isLt).1 (ix3 0 r j) = R m c (bat t) (pos t r) j := by
  unfold R Cert.RConvIdeal.Val.conv Cert.RConvIdeal.Val.mixed
  by_cases h : t.val % 16 = 0
  · rw [outsAt0_A m c t h]
    dsimp only
    frame_out
    refine pay1_of _ _ _ _ _ _ _ _ _ _ _ r j (fun k => ?_) (fun k => tileP_apply m c t r k) (fun k => tileU_apply m c t r k)
      (fun k => shiftA m c t h 1 7 rfl _ r k) (fun k => shiftA m c t h 2 6 rfl _ r k) (fun k => ?_) (fun k => ?_) (fun k => ?_)
      (fun k => ?_) (fun i k => ?_) (fun k => ?_)
    · pointwise [k0_pay4]
      blk_point [iblk, V, idx t]
    all_goals blk_point [iblk, V, idx t]
  · rw [outsAt0_B m c t h]
    dsimp only
    frame_out
    refine pay1_of _ _ _ _ _ _ _ _ _ _ _ r j (fun k => ?_) (fun k => tileP_apply m c t r k) (fun k => tileU_apply m c t r k)
      (fun k => shiftB m c t h _ 1 7 rfl _ _ r k) (fun k => shiftB m c t h _ 2 6 rfl _ _ r k) (fun k => ?_) (fun k => ?_)
      (fun k => ?_) (fun k => ?_) (fun i k => ?_) (fun k => ?_)
    · pointwise [k0_pay4]
      blk_point [iblk, V, idx t]
    all_goals blk_point [iblk, V, idx t]

/-- The result array after the run. -/
theorem final (c : Dev nD) : (dats m 0 c).arrAt 6 cfg0.N = G m c := by
  refine (dats m 0 c).arrAt_eq_of_covers 6 _ (by decide +kernel) fun t hf y => ?_
  blk_simp
  rw [after0_6]
  idx_vars y
  obtain rfl : y0 = (0 : Fin 1) := Subsingleton.elim _ _
  refine (out m c t y1 y2).trans ?_
  show G m c (ix3 (bat t) (pos t y1) y2) = _
  generalize G m c = g
  blk_point [idx t]

/-- What a run of the kernel leaves: the result array at `G`, the arguments as they were. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  run_from Gen.run_main m ρ
  exact final m c

end Cert.KConvIdeal.Val

namespace Cert.Proof.ConvClaims

/-- The convolution kernel and the reference's lines leave the same result array. -/
theorem algebraic : Cert.algebraic_KConvIdeal_RConvIdeal := by
  intro m ρ m' ρ' _ hag
  refine ⟨fun c => Cert.KConvIdeal.Val.G m c, Cert.KConvIdeal.Val.run m ρ, ?_⟩
  refine (θ_run Cert.RConvIdeal.defs _ _).mono (fun _ h c => ⟨(h c).1.trans ?_, (h c).2⟩) (Cert.RConvIdeal.Value.run (F := Ideal) m' ρ')
  rw [Cert.RConvIdeal.Read.val_main_v77_eq, (hag c).1, (hag c).2.1, (hag c).2.2.1, (hag c).2.2.2.1, (hag c).2.2.2.2.1,
    (hag c).2.2.2.2.2]
  funext i
  idx_vars i
  exact Cert.RConvIdeal.Val.v77_apply _ _ _ _ _ _ _ _ _

end Cert.Proof.ConvClaims
end
-- ==== Proof.AttnIx.lean ====
/-
  The integer arithmetic of the attention's index tables, and the two table look-ups, entry by entry.
-/
module

public import Idealize.ShloMosaic.Lib.Pipeline.Value
public import Idealize.ShloMosaic.Lib.Pointwise
public import Idealize.ShloMosaic.Lib.IdealHost

@[expose] public section

set_option maxRecDepth 16384

noncomputable section

open Idealize.ShloMosaic

namespace Cert.Ix

/-- Word arithmetic on small numbers: `i + 512 - j` is `i + 768 - j` less 256. -/
theorem dist_eq (i j : ℕ) (hi : i < 128) (hj : j < 640) :
    IntOp.subi (IntOp.addi (BitVec.ofNat 32 i) 512#32) (BitVec.ofNat 32 j) = IntOp.subi (BitVec.ofNat 32 (i + 768 - j)) 256#32 := by
  unfold IntOp.subi IntOp.addi
  apply BitVec.eq_of_toNat_eq
  simp only [BitVec.toNat_sub, BitVec.toNat_add, BitVec.toNat_ofNat]
  omega

/-- A distance clipped to ±256, counted from 256 up, with the wrap of negative indices that never happens. -/
abbrev clipped (z : BitVec 32) : BitVec 32 :=
  Scalar.select
      (IntOp.cmpi CmpIPredicate.slt (IntOp.addi (IntOp.minsi 256#32 (IntOp.maxsi 4294967040#32 z)) 256#32) 0#32)
      (IntOp.addi (IntOp.addi (IntOp.minsi 256#32 (IntOp.maxsi 4294967040#32 z)) 256#32) 513#32)
      (IntOp.addi (IntOp.minsi 256#32 (IntOp.maxsi 4294967040#32 z)) 256#32)

/-- The clipped relative distance, as a number. -/
theorem clipped_eq : ∀ t : Fin 1024, clipped (IntOp.subi (BitVec.ofNat 32 t.val) 256#32) = BitVec.ofNat 32 (min t.val 512) := by
  decide +kernel

/-- The clipped distance of query `i` and slot `j`. -/
theorem clipped_dist (i j : ℕ) (hi : i < 128) (hj : j < 640) :
    clipped (IntOp.subi (IntOp.addi (BitVec.ofNat 32 i) 512#32) (BitVec.ofNat 32 j)) = BitVec.ofNat 32 (min (i + 768 - j) 512) := by
  rw [dist_eq i j hi hj]
  exact clipped_eq ⟨i + 768 - j, by omega⟩

/-- A small number read off its word. -/
theorem toInt_small (n : ℕ) (h : n < 16384) : (BitVec.ofNat 32 n).toInt = n := by
  rw [BitVec.toInt_eq_toNat_of_lt (by simp; omega)]
  simp
  omega

/-- The padded position of chunk `n`'s band slot `j`, as the words compute it. -/
theorem slot_eq (n j : ℕ) (hn : n < 128) (hj : j < 576) :
    IntOp.addi (IntOp.muli (BitVec.ofNat 32 n) 64#32) (BitVec.ofNat 32 j) = BitVec.ofNat 32 (64 * n + j) := by
  unfold IntOp.muli IntOp.addi
  apply BitVec.eq_of_toNat_eq
  simp only [BitVec.toNat_mul, BitVec.toNat_add, BitVec.toNat_ofNat]
  omega

/-- A nonnegative index is not wrapped. -/
theorem wrap_eq (t : ℕ) (h : t < 16384) (z : BitVec 32) :
    Scalar.select (IntOp.cmpi CmpIPredicate.slt (BitVec.ofNat 32 t) 0#32) z (BitVec.ofNat 32 t) = BitVec.ofNat 32 t := by
  unfold IntOp.cmpi
  have h2 : (BitVec.ofNat 32 t).slt 0#32 = false := by
    unfold BitVec.slt
    rw [toInt_small t h]
    simp
  simp only [h2]
  rfl

/-- How many slots of a chunk lie before the first position. -/
theorem before_toInt : ∀ n : Fin 128, (IntOp.muli (IntOp.subi 8#32 (BitVec.ofNat 32 n.val)) 64#32).toInt = 512 - 64 * (n.val : ℤ) := by
  decide +kernel

/-- A band slot is seen exactly when it does not lie before the first position. -/
theorem seen_eq (n j : ℕ) (hn : n < 128) (hj : j < 576) :
    IntOp.cmpi CmpIPredicate.sge (BitVec.ofNat 32 j) (IntOp.muli (IntOp.subi 8#32 (BitVec.ofNat 32 n)) 64#32)
      = if 512 ≤ 64 * n + j then 1#1 else 0#1 := by
  unfold IntOp.cmpi
  simp only [BitVec.sle]
  rw [before_toInt ⟨n, hn⟩, toInt_small j (by omega)]
  by_cases h : 512 ≤ 64 * n + j
  · rw [if_pos h, decide_eq_true (by simp only; omega)]; rfl
  · rw [if_neg h, decide_eq_false (by simp only; omega)]; rfl

/-- The look-up `table[:, index]`, entry by entry. -/
theorem gather_cols {α : Type} {N M R C : ℕ} (hM : 0 < M)
    (wf : GatherDims.WF ⟨2, ![N, M]⟩ ⟨3, ![R, C, 1]⟩ ⟨3, ![N, R, C]⟩ [0] [1] [] [1] [] 2 ![N, 1])
    (x : (⟨2, ![N, M]⟩ : Shape).Idx → α) (idx : IVec ⟨3, ![R, C, 1]⟩ 32) (a : Fin N) (i : Fin R) (j : Fin C) :
    Host.gather ⟨[0], [1], [], [], [1], 2, ![N, 1], wf⟩ x idx (ix3 a i j)
      = x (ix2 a ⟨min (idx (ix3 i j 0)).toInt.toNat (M - 1), by omega⟩) := by
  unfold Host.gather
  congr 1
  funext d
  refine Fin.ext ?_
  have hs : ∀ c, GatherDims.siIdx (⟨[0], [1], [], [], [1], 2, ![N, 1], wf⟩ : GatherDims ⟨2, ![N, M]⟩ ⟨3, ![R, C, 1]⟩ ⟨3, ![N, R, C]⟩) (ix3 a i j) c
      = ix3 i j 0 := by
    intro c
    funext b
    refine Fin.ext ?_
    match b with
    | ⟨0, _⟩ => rfl
    | ⟨1, _⟩ => rfl
    | ⟨2, _⟩ => exact congrArg Fin.val (Subsingleton.elim (α := Fin 1) _ _)
  match d with
  | ⟨0, _⟩ => show 0 + 0 + a.val = a.val; omega
  | ⟨1, _⟩ =>
    show min (idx _).toInt.toNat (M - 1) + 0 + 0 = _
    rw [hs]
    rfl

/-- The look-up `array[:, index]` of an array of rank four, entry by entry. -/
theorem gather_rows {α : Type} {A P H E R C : ℕ} (hP : 0 < P)
    (wf : GatherDims.WF ⟨4, ![A, P, H, E]⟩ ⟨3, ![R, C, 1]⟩ ⟨5, ![A, R, C, H, E]⟩ [0, 3, 4] [1] [] [1] [] 2 ![A, 1, H, E])
    (x : (⟨4, ![A, P, H, E]⟩ : Shape).Idx → α) (idx : IVec ⟨3, ![R, C, 1]⟩ 32) (a : Fin A) (i : Fin R) (j : Fin C) (h : Fin H) (e : Fin E) :
    Host.gather ⟨[0, 3, 4], [1], [], [], [1], 2, ![A, 1, H, E], wf⟩ x idx (ix5 a i j h e)
      = x (ix4 a ⟨min (idx (ix3 i j 0)).toInt.toNat (P - 1), by omega⟩ h e) := by
  unfold Host.gather
  congr 1
  funext d
  refine Fin.ext ?_
  have hs : ∀ c, GatherDims.siIdx (⟨[0, 3, 4], [1], [], [], [1], 2, ![A, 1, H, E], wf⟩ : GatherDims ⟨4, ![A, P, H, E]⟩ ⟨3, ![R, C, 1]⟩ ⟨5, ![A, R, C, H, E]⟩) (ix5 a i j h e) c
      = ix3 i j 0 := by
    intro c
    funext b
    refine Fin.ext ?_
    match b with
    | ⟨0, _⟩ => rfl
    | ⟨1, _⟩ => rfl
    | ⟨2, _⟩ => exact congrArg Fin.val (Subsingleton.elim (α := Fin 1) _ _)
  match d with
  | ⟨0, _⟩ => show 0 + 0 + a.val = a.val; omega
  | ⟨1, _⟩ =>
    show min (idx _).toInt.toNat (P - 1) + 0 + 0 = _
    rw [hs]
    rfl
  | ⟨2, _⟩ => show 0 + 0 + h.val = h.val; omega
  | ⟨3, _⟩ => show 0 + 0 + e.val = e.val; omega

/-- The word of minus infinity. -/
theorem ofBits_bot : Ideal.ofBits .f32 0xFF800000#32 = ⊥ := by
  simp [Ideal.ofBits, Ideal.ieee]

/-- The word of plus infinity. -/
theorem ofBits_top : Ideal.ofBits .f32 0x7F800000#32 = ⊤ := by
  simp [Ideal.ofBits, Ideal.ieee]

end Cert.Ix

end
-- ==== Proof.AttnTab.lean ====
/-
  The attention's bias table as the program builds it before the call, entry by entry.
-/
module

public import proofs.«01_k».proof.Proof.IFrame
public import proofs.«01_k».proof.Proof.AttnIx
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Val

open Cert.KernelIdeal Cert.KernelIdeal.Gen Cert.KernelIdeal.Attn

/-- The first column of a query's chunk, as the words compute it: the query's number divided by 64, rounded down, times 64. -/
abbrev chunkw (z : BitVec 32) : BitVec 32 :=
  IntOp.muli
    (Scalar.select
      (IntOp.andi
        (IntOp.cmpi CmpIPredicate.ne
          (if z = 0 then 0 else if z.msb = true then -1 else 1 : BitVec 32)
          (if 64#32 = 0 then 0 else if (64#32).msb = true then -1 else 1 : BitVec 32))
        (IntOp.cmpi CmpIPredicate.ne (IntOp.remsi ArithUnit.host z 64#32) 0#32))
      (IntOp.subi (IntOp.divsi ArithUnit.host z 64#32) 1#32)
      (IntOp.divsi ArithUnit.host z 64#32))
    64#32

/-- Where, in rows of the group, the chunk of a query starts. -/
theorem chunkw_eq : ∀ r : Fin 128, chunkw (BitVec.ofNat 32 r.val) = BitVec.ofNat 32 (64 * (r.val / 64)) := by
  decide +kernel

/-- Whether a column lies in the band of a chunk. -/
theorem band_eq : ∀ (b : Fin 2) (k : Fin 640),
    IntOp.andi (IntOp.cmpi CmpIPredicate.sge (IntOp.subi (BitVec.ofNat 32 k.val) (BitVec.ofNat 32 (64 * b.val))) 0#32)
      (IntOp.cmpi CmpIPredicate.slt (IntOp.subi (BitVec.ofNat 32 k.val) (BitVec.ofNat 32 (64 * b.val))) 576#32)
      = if 64 * b.val ≤ k.val ∧ k.val < 64 * b.val + 576 then 1#1 else 0#1 := by
  decide +kernel

/-- The band's mask for query `r` and column `k`: set exactly on the 576 columns from the query's chunk on. -/
theorem band_mask (r k : ℕ) (hr : r < 128) (hk : k < 640) :
    IntOp.andi (IntOp.cmpi CmpIPredicate.sge (IntOp.subi (BitVec.ofNat 32 k) (chunkw (BitVec.ofNat 32 r))) 0#32)
      (IntOp.cmpi CmpIPredicate.slt (IntOp.subi (BitVec.ofNat 32 k) (chunkw (BitVec.ofNat 32 r))) 576#32)
      = if 64 * (r / 64) ≤ k ∧ k < 64 * (r / 64) + 576 then 1#1 else 0#1 := by
  rw [chunkw_eq ⟨r, hr⟩]
  exact band_eq ⟨r / 64, by omega⟩ ⟨k, hk⟩

variable (m : (ℓ : Loc nD τ sig) → Buf (Elt Ideal) ℓ)

/-- The bias table's entry for head pair `p`, row `q` (the head of the pair times 128, plus the query) and column `k`: the
    relative bias at their clipped distance inside the band, `⊥` outside. -/
theorem bias_entry (c : Dev nD) (p : Fin 8) (q : Fin 256) (k : Fin 640) :
    (V m c main_v33 : Vec Ideal S8x256x640 .f32) (ix3 p q k)
      = if 64 * (q.val % 128 / 64) ≤ k.val ∧ k.val < 64 * (q.val % 128 / 64) + 576 then show EReal from
          (m ((c.tc : Thread nD τ).loc main_arg4) : Vec Ideal S16x513 .f32)
            (ix2 ⟨p.val * 2 + q.val / 128, by omega⟩ ⟨min (q.val % 128 + 768 - k.val) 512, by omega⟩)
        else (⊥ : EReal) := by
  unfold_abbrev_sides
  simp only [hostOps0, hostOps0_1, hostOps0_2, hostOps0_3, hostOps0_4, hostOps0_5, hostOps0_6, List.flatten_cons, List.flatten_nil, List.cons_append, List.nil_append, List.append_nil]
  after_results
  simp only [StableHlo.TRef.ofBuf, StableHlo.TRef.toBuf, id, cast_cast, cast_eq]
  pointwise
  refine (congrArg (fun z => Scalar.select z _ _) (band_mask (q.val % 128) k.val (by omega) (by omega))).trans ?_
  by_cases h : 64 * (q.val % 128 / 64) ≤ k.val ∧ k.val < 64 * (q.val % 128 / 64) + 576
  · simp only [if_pos h]
    show Host.gather _ _ _ _ = _
    refine (Cert.Ix.gather_cols (by omega) _ _ _ _ _ _).trans ?_
    refine congrArg (fun t => (m ((c.tc : Thread nD τ).loc main_arg4) : Vec Ideal S16x513 .f32) (ix2 ⟨p.val * 2 + q.val / 128, by omega⟩ t)) (Fin.ext ?_)
    pointwise
    show min (Cert.Ix.clipped (IntOp.subi (IntOp.addi (BitVec.ofNat 32 (q.val % 128)) 512#32) (BitVec.ofNat 32 k.val))).toInt.toNat 512 = _
    rw [Cert.Ix.clipped_dist (q.val % 128) k.val (by omega) (by omega), Cert.Ix.toInt_small _ (by omega)]
    omega
  · simp only [if_neg h]
    exact Cert.Ix.ofBits_bot

end Cert.KernelIdeal.Val

end
-- ==== Proof.AttnRef.lean ====
/-
  The attention sublayer of the reference, entry by entry: each query sees the 576 keys of its chunk of 64 and the eight
  chunks before, hidden where they lie before the first position; a bias by clipped distance; a softmax; the output weight;
  the gated residual.
-/
module

public import proofs.«01_k».proof.Defs
public import proofs.«01_k».proof.Proof.Rows
public import proofs.«01_k».proof.Proof.AttnIx
public import proofs.«01_k».proof.Proof.Gen.ReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Read Cert.Rows

section Spec

variable (x : Vec Ideal S2x8192x1024 .f32) (md : Vec Ideal S2x3x1024 .f32) (g : Vec Ideal S2x1024 .f32)
  (w : Vec Ideal S1024x3072 .f32) (rb : Vec Ideal S16x513 .f32) (w' : Vec Ideal S1024x1024 .f32)

/-- Column `k` of the query-key-value projection at batch `b`, position `s`. -/
def proj (b : Fin 2) (s : Fin 8192) (k : Fin 3072) : EReal :=
  ∑ i, pre (fun k => x (ix3 b s k)) (fun k => g (ix2 0 k)) (fun k => md (ix3 b 1 k)) (fun k => md (ix3 b 0 k)) i * w (ix2 i k)

/-- The key (`o = 1024`) or value (`o = 2048`) entry of head `h`, lane `e` at position `p - 512`; zero before the first position. -/
def padded (o : ℕ) (ho : o ≤ 2048) (b : Fin 2) (p : Fin 8704) (h : Fin 16) (e : Fin 64) : EReal :=
  if hp : 512 ≤ p.val then proj x md g w b ⟨p.val - 512, by omega⟩ ⟨o + (h.val * 64 + e.val), by omega⟩ else 0

/-- The bias table's column for query `i` and band slot `j`: their distance clipped to ±256, from 256 up. -/
def relIx (i : Fin 64) (j : Fin 576) : Fin 513 := ⟨min (i.val + 768 - j.val) 512, by omega⟩

/-- Band slot `j` of chunk `n`, as a padded position. -/
def slot (n : Fin 128) (j : Fin 576) : Fin 8704 := ⟨64 * n.val + j.val, by omega⟩

/-- The score of band slot `j` for query `i` of chunk `n`, head `h`: `⊥` where the slot lies before the first position. -/
def score (b : Fin 2) (n : Fin 128) (h : Fin 16) (i : Fin 64) (j : Fin 576) : EReal :=
  if 512 ≤ (slot n j).val then
    (∑ e : Fin 64, proj x md g w b ⟨n.val * 64 + i.val, by omega⟩ ⟨h.val * 64 + e.val, by omega⟩ * (FloatOps.ofBits (F := Ideal) .f32 0x3E000000#32)
      * padded x md g w 1024 (by omega) b (slot n j) h e) + rb (ix2 h (relIx i j))
  else ⊥

/-- The largest score of a query. -/
def top (b : Fin 2) (n : Fin 128) (h : Fin 16) (i : Fin 64) : EReal := Finset.univ.fold max ⊥ (score x md g w rb b n h i)

/-- The weighted sum of values of a query: head `h`, lane `e`. -/
def ctx (b : Fin 2) (n : Fin 128) (h : Fin 16) (i e : Fin 64) : EReal :=
  ∑ j : Fin 576, padded x md g w 2048 (by omega) b (slot n j) h e
    * Ideal.div (Ideal.exp (score x md g w rb b n h i j - top x md g w rb b n h i))
        (∑ j, Ideal.exp (score x md g w rb b n h i j - top x md g w rb b n h i))

/-- The same at a position and a column of the row of 1024. -/
def ctxRow (b : Fin 2) (s : Fin 8192) (k : Fin 1024) : EReal :=
  ctx x md g w rb b ⟨s.val / 64, by omega⟩ ⟨k.val / 64, by omega⟩ ⟨s.val % 64, by omega⟩ ⟨k.val % 64, by omega⟩

/-- The result of the attention sublayer at batch `b`, position `s`, column `j`, from the arrays. -/
def attn (b : Fin 2) (s : Fin 8192) (j : Fin 1024) : EReal :=
  post (fun k => x (ix3 b s k)) (fun k => ∑ i, ctxRow x md g w rb b s i * w' (ix2 i k))
    (fun k => g (ix2 1 k)) (fun k => md (ix3 b 2 k)) j

/-- The reference's normalised and modulated row. -/
theorem v26_apply (b : Fin 2) (s : Fin 8192) (j : Fin 1024) :
    val_main_v26 (F := Ideal) x md g (ix3 b s j)
      = pre (fun k => x (ix3 b s k)) (fun k => g (ix2 0 k)) (fun k => md (ix3 b 1 k)) (fun k => md (ix3 b 0 k)) j := by
  pointwise [val_main_v26, val_main_v25, val_main_v24, val_main_v23, val_main_v22, val_main_v21, val_main_v20, val_main_cst_2,
    val_main_v19, val_main_v18, val_main_v17, val_main_v16, val_main_v15, val_main_v14, val_main_v13, val_main_v12, val_main_v11,
    val_main_v10, val_main_v9, val_main_v8, val_main_v7, val_main_cst_1, val_main_v6, val_main_v5, val_main_cst_0, val_main_v4,
    val_main_v3, val_main_cst, val_main_v2, val_main_v1, val_main_v0]
  rfl

/-- The reference's projection. -/
theorem v30_apply (b : Fin 2) (s : Fin 8192) (k : Fin 3072) :
    val_main_v30 (F := Ideal) x md g w (ix3 b s k) = proj x md g w b s k := by
  unfold proj
  simp only [← v26_apply]
  pointwise [val_main_v30]

/-- The reference's projection split into its three parts, heads and lanes. -/
theorem v31_apply (b : Fin 2) (s : Fin 8192) (z : Fin 3) (h : Fin 16) (e : Fin 64) :
    val_main_v31 (F := Ideal) x md g w (ix5 b s z h e) = proj x md g w b s ⟨z.val * 1024 + (h.val * 64 + e.val), by omega⟩ := by
  rw [← v30_apply, val_main_v31_apply]
  congr 1
  funext a
  apply Fin.ext
  fin_cases a <;> simp <;> omega

/-- The reference's queries, by chunk. -/
theorem v42_apply (b : Fin 2) (n : Fin 128) (i : Fin 64) (h : Fin 16) (e : Fin 64) :
    val_main_v42 (F := Ideal) x md g w (ix5 b n i h e)
      = proj x md g w b ⟨n.val * 64 + i.val, by omega⟩ ⟨h.val * 64 + e.val, by omega⟩ * (FloatOps.ofBits (F := Ideal) .f32 0x3E000000#32) := by
  have e1 := v31_apply x md g w b ⟨n.val * 64 + i.val, by omega⟩ 0 h e
  pointwise [val_main_v42, val_main_v35, val_main_v34, val_main_cst_3, val_main_v33, val_main_v32]
  rw [v31_apply]
  congr 2
  exact Fin.ext (by simp)

/-- The integer zero the padding converts is zero. -/
theorem sitofp_zero : FloatOps.sitofp (F := Ideal) FTy.f32 (0#32 : BitVec 32) = (0 : EReal) := by
  show ((((0#32 : BitVec 32).toInt : ℤ) : ℝ) : EReal) = 0
  simp

/-- The reference's keys, padded. -/
theorem v40_apply (b : Fin 2) (p : Fin 8704) (h : Fin 16) (e : Fin 64) :
    val_main_v40 (F := Ideal) x md g w (ix4 b p h e) = padded x md g w 1024 (by omega) b p h e := by
  pointwise [val_main_v40, val_main_call0_v0, val_main_c, val_main_v37, val_main_v36]
  unfold padded
  by_cases hp : 512 ≤ p.val
  · rw [dif_pos ⟨hp, by omega⟩, dif_pos hp, v31_apply]
    congr 1
  · rw [dif_neg (fun h' => hp h'.1), dif_neg hp]
    exact sitofp_zero

/-- The reference's values, padded. -/
theorem v41_apply (b : Fin 2) (p : Fin 8704) (h : Fin 16) (e : Fin 64) :
    val_main_v41 (F := Ideal) x md g w (ix4 b p h e) = padded x md g w 2048 (by omega) b p h e := by
  pointwise [val_main_v41, val_main_call1_v0, val_main_c_4, val_main_v39, val_main_v38]
  unfold padded
  by_cases hp : 512 ≤ p.val
  · rw [dif_pos ⟨hp, by omega⟩, dif_pos hp, v31_apply]
    congr 1
  · rw [dif_neg (fun h' => hp h'.1), dif_neg hp]
    exact sitofp_zero

/-- The reference's table of clipped distances. -/
theorem v60_apply (i : Fin 64) (j : Fin 576) :
    val_main_v60 (F := Ideal) (ix3 i j 0) = BitVec.ofNat 32 (min (i.val + 768 - j.val) 512) := by
  pointwise [val_main_v60, val_main_v59, val_main_v58, val_main_v57, val_main_c_10, val_main_v56, val_main_v55, val_main_c_9, val_main_v54,
    val_main_v53, val_main_c_8, val_main_v52, val_main_call2_v4, val_main_call2_v3, val_main_c_7, val_main_call2_v2, val_main_call2_v1,
    val_main_call2_v0, val_main_c_6, val_main_v51, val_main_v50, val_main_v49, val_main_v48, val_main_v47, val_main_c_5, val_main_v46,
    val_main_v45, val_main_v44, val_main_v43]
  exact Cert.Ix.clipped_dist i.val j.val (by omega) (by omega)

/-- The reference's bias. -/
theorem v61_apply (h : Fin 16) (i : Fin 64) (j : Fin 576) :
    val_main_v61 (F := Ideal) rb (ix3 h i j) = rb (ix2 h (relIx i j)) := by
  unfold val_main_v61
  refine (Cert.Ix.gather_cols (by omega) _ rb _ h i j).trans ?_
  refine congrArg (fun t => rb (ix2 h t)) (Fin.ext ?_)
  show min (val_main_v60 (F := Ideal) (ix3 i j 0)).toInt.toNat (513 - 1) = min (i.val + 768 - j.val) 512
  rw [v60_apply, Cert.Ix.toInt_small _ (by omega)]
  omega

/-- The reference's table of padded positions. -/
theorem v76_apply (n : Fin 128) (j : Fin 576) : val_main_v76 (F := Ideal) (ix3 n j 0) = BitVec.ofNat 32 (64 * n.val + j.val) := by
  pointwise [val_main_v76, val_main_v75, val_main_v74, val_main_v73, val_main_c_13, val_main_v72, val_main_v71, val_main_c_12, val_main_v70,
    val_main_v69, val_main_v68, val_main_v67, val_main_v66, val_main_v65, val_main_c_11, val_main_v64, val_main_v63, val_main_v62]
  rw [Cert.Ix.slot_eq n.val j.val (by omega) (by omega), Cert.Ix.wrap_eq _ (by omega)]

/-- The same table, made again for the values. -/
theorem v83_apply (n : Fin 128) (j : Fin 576) : val_main_v83 (F := Ideal) (ix3 n j 0) = BitVec.ofNat 32 (64 * n.val + j.val) := by
  pointwise [val_main_v83, val_main_v82, val_main_v81, val_main_v80, val_main_c_15, val_main_v79, val_main_v78, val_main_c_14, val_main_v70,
    val_main_v69, val_main_v68, val_main_v67, val_main_v66, val_main_v65, val_main_c_11, val_main_v64, val_main_v63, val_main_v62]
  rw [Cert.Ix.slot_eq n.val j.val (by omega) (by omega), Cert.Ix.wrap_eq _ (by omega)]

/-- The reference's keys, by chunk and band slot. -/
theorem v77_apply (b : Fin 2) (n : Fin 128) (j : Fin 576) (h : Fin 16) (e : Fin 64) :
    val_main_v77 (F := Ideal) x md g w (ix5 b n j h e) = padded x md g w 1024 (by omega) b (slot n j) h e := by
  rw [← v40_apply]
  unfold val_main_v77
  generalize val_main_v40 (F := Ideal) x md g w = y
  refine (Cert.Ix.gather_rows (by omega) _ y _ b n j h e).trans ?_
  refine congrArg (fun t => y (ix4 b t h e)) (Fin.ext ?_)
  show min (val_main_v76 (F := Ideal) (ix3 n j 0)).toInt.toNat (8704 - 1) = 64 * n.val + j.val
  rw [v76_apply, Cert.Ix.toInt_small _ (by omega)]
  omega

/-- The reference's values, by chunk and band slot. -/
theorem v84_apply (b : Fin 2) (n : Fin 128) (j : Fin 576) (h : Fin 16) (e : Fin 64) :
    val_main_v84 (F := Ideal) x md g w (ix5 b n j h e) = padded x md g w 2048 (by omega) b (slot n j) h e := by
  rw [← v41_apply]
  unfold val_main_v84
  generalize val_main_v41 (F := Ideal) x md g w = y
  refine (Cert.Ix.gather_rows (by omega) _ y _ b n j h e).trans ?_
  refine congrArg (fun t => y (ix4 b t h e)) (Fin.ext ?_)
  show min (val_main_v83 (F := Ideal) (ix3 n j 0)).toInt.toNat (8704 - 1) = 64 * n.val + j.val
  rw [v83_apply, Cert.Ix.toInt_small _ (by omega)]
  omega

/-- The reference's scores, hidden ones included. -/
theorem v99_apply (b : Fin 2) (n : Fin 128) (h : Fin 16) (i : Fin 64) (j : Fin 576) :
    val_main_v99 (F := Ideal) x md g w rb (ix5 b n h i j) = score x md g w rb b n h i j := by
  unfold score
  simp only [← v61_apply, ← v42_apply, ← v77_apply]
  pointwise [val_main_v99, val_main_call3_v2, val_main_call3_v1, val_main_call3_v0, val_main_cst_18, val_main_v98, val_main_v97, val_main_v96,
    val_main_v95, val_main_v94, val_main_v93, val_main_c_17, val_main_v92, val_main_v91, val_main_c_16, val_main_v90, val_main_v89,
    val_main_v88, val_main_v87, val_main_v86, val_main_v85, val_main_v62, val_main_v63]
  rw [Cert.Ix.seen_eq n.val j.val (by omega) (by omega)]
  by_cases hs : 512 ≤ 64 * n.val + j.val
  · rw [if_pos hs, if_pos (show 512 ≤ (slot n j).val from hs)]
    rfl
  · rw [if_neg hs, if_neg (show ¬ 512 ≤ (slot n j).val from hs)]
    exact Cert.Ix.ofBits_bot

end Spec

end Cert.ReferenceIdeal.Val

end
-- ==== Proof.AttnRow.lean ====
/-
  The attention sublayer of the reference, entry by entry: each query sees the 576 keys of its chunk of 64 and the eight
  chunks before, hidden where they lie before the first position; a bias by clipped distance; a softmax; the output weight;
  the gated residual.
-/
module

public import proofs.«01_k».proof.Defs
public import proofs.«01_k».proof.Proof.Rows
public import proofs.«01_k».proof.Proof.AttnRef
public import proofs.«01_k».proof.Proof.Gen.ReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Read Cert.Rows

/-- The reference's row maxima, entry by entry. -/
theorem reduce_of (y : FVec Ideal S2x128x16x64x576 .f32) (b : Fin 2) (n : Fin 128) (h : Fin 16) (i : Fin 64) (c : FVec Ideal S_ .f32) :
    Host.reduce FloatOps.maximumf y c reducesTo_S2x128x16x64x576_S2x128x16x64_d4 h_S_ (ix4 b n h i)
      = Finset.univ.fold max (c ix0) (fun j => y (ix5 b n h i j)) := by
  simp only [pointwise]
  rw [show Shape.Idx.first h_S_ = ix0 from funext fun a => a.elim0]

/-- A maximum against minus infinity changes nothing. -/
theorem max_of (t : FVec Ideal S2x128x16x64 .f32) (b : Fin 2) (n : Fin 128) (h : Fin 16) (i : Fin 64) :
    (maximumf (broadcastInDim S2x128x16x64 ![] bcast_S_S2x128x16x64 (constant (F := Ideal) S_ FTy.f32 4286578688#32)) t) (ix4 b n h i)
      = t (ix4 b n h i) := by
  have hm : (maximumf (broadcastInDim S2x128x16x64 ![] bcast_S_S2x128x16x64 (constant (F := Ideal) S_ FTy.f32 4286578688#32)) t) (ix4 b n h i)
    = max (Ideal.ofBits .f32 4286578688#32) (t (ix4 b n h i)) := rfl
  rw [hm, Cert.Ix.ofBits_bot, bot_sup_eq]

/-- The same with the second maximum against minus infinity. -/
theorem top_of (y : FVec Ideal S2x128x16x64x576 .f32) (b : Fin 2) (n : Fin 128) (h : Fin 16) (i : Fin 64) :
    (maximumf (broadcastInDim S2x128x16x64 ![] bcast_S_S2x128x16x64 (constant (F := Ideal) S_ FTy.f32 4286578688#32))
      (Host.reduce FloatOps.maximumf y (constant S_ FTy.f32 4286578688#32)
        reducesTo_S2x128x16x64x576_S2x128x16x64_d4 h_S_)) (ix4 b n h i)
      = Finset.univ.fold max ⊥ (fun j => y (ix5 b n h i j)) := by
  rw [max_of, reduce_of]
  exact congrArg (fun z => Finset.univ.fold max z (fun j => y (ix5 b n h i j))) Cert.Ix.ofBits_bot

/-- The exponentials, entry by entry. -/
theorem exps_of (y : FVec Ideal S2x128x16x64x576 .f32) (b : Fin 2) (n : Fin 128) (h : Fin 16) (i : Fin 64) (j : Fin 576) (t : FVec Ideal S2x128x16x64 .f32) :
    (Host.exp
      (subf y
        (broadcastInDim S2x128x16x64x576 ![0, 1, 2, 3, 4] bcast_S2x128x16x64x1_S2x128x16x64x576_0_1_2_3_4
          (broadcastInDim S2x128x16x64x1 ![0, 1, 2, 3] bcast_S2x128x16x64_S2x128x16x64x1_0_1_2_3 t)))) (ix5 b n h i j)
      = Ideal.exp (y (ix5 b n h i j) - t (ix4 b n h i)) := by
  pointwise []

/-- The division by the row sums, entry by entry. -/
theorem div_of (y : FVec Ideal S2x128x16x64x576 .f32) (b : Fin 2) (n : Fin 128) (h : Fin 16) (i : Fin 64) (j : Fin 576) :
    (Host.divf y
      (broadcastInDim S2x128x16x64x576 ![0, 1, 2, 3, 4] bcast_S2x128x16x64x1_S2x128x16x64x576_0_1_2_3_4
        (broadcastInDim S2x128x16x64x1 ![0, 1, 2, 3] bcast_S2x128x16x64_S2x128x16x64x1_0_1_2_3
          (Host.reduceAdd y (constant S_ FTy.f32 0#32) reducesTo_S2x128x16x64x576_S2x128x16x64_d4 h_S_)))) (ix5 b n h i j)
      = Ideal.div (y (ix5 b n h i j)) (∑ j, y (ix5 b n h i j)) := by
  pointwise []

/-- The weighting of the values, entry by entry. -/
theorem dot_of (p : FVec Ideal S2x128x16x64x576 .f32) (z : FVec Ideal S2x128x576x16x64 .f32) (b : Fin 2) (n : Fin 128) (h : Fin 16) (e i : Fin 64) :
    Host.dotGeneral dot_S2x128x576x16x64_S2x128x16x64x576_S2x128x16x64x64_2_4_4_3_013_012 none z p (ix5 b n h e i)
      = ∑ j : Fin 576, z (ix5 b n j h e) * p (ix5 b n h i j) := by
  pointwise []

/-- The chunks put back in rows, entry by entry. -/
theorem rows_of (d : FVec Ideal S2x128x16x64x64 .f32) (b : Fin 2) (s : Fin 8192) (k : Fin 1024) :
    shapeCast S2x8192x1024 (transpose S2x128x64x16x64 [0, 1, 4, 2, 3] d transposes_S2x128x16x64x64_S2x128x64x16x64_0_1_4_2_3)
      shapeCasts_S2x128x64x16x64_S2x8192x1024 (ix3 b s k)
    = d (ix5 b ⟨s.val / 64, by omega⟩ ⟨k.val / 64, by omega⟩ ⟨k.val % 64, by omega⟩ ⟨s.val % 64, by omega⟩) := by
  pointwise []

/-- The softmax and the weighting by it, entry by entry, of any scores `y` and values `z`. -/
theorem soft_of (y : FVec Ideal S2x128x16x64x576 .f32) (z : FVec Ideal S2x128x576x16x64 .f32) (b : Fin 2) (s : Fin 8192) (k : Fin 1024) :
    shapeCast S2x8192x1024
      (transpose S2x128x64x16x64 [0, 1, 4, 2, 3]
        (Host.dotGeneral dot_S2x128x576x16x64_S2x128x16x64x576_S2x128x16x64x64_2_4_4_3_013_012 none z
          (Host.divf
            (Host.exp
              (subf y
                (broadcastInDim S2x128x16x64x576 ![0, 1, 2, 3, 4] bcast_S2x128x16x64x1_S2x128x16x64x576_0_1_2_3_4
                  (broadcastInDim S2x128x16x64x1 ![0, 1, 2, 3] bcast_S2x128x16x64_S2x128x16x64x1_0_1_2_3
                    (maximumf (broadcastInDim S2x128x16x64 ![] bcast_S_S2x128x16x64 (constant S_ FTy.f32 4286578688#32))
                      (Host.reduce FloatOps.maximumf y (constant S_ FTy.f32 4286578688#32)
                        reducesTo_S2x128x16x64x576_S2x128x16x64_d4 h_S_))))))
            (broadcastInDim S2x128x16x64x576 ![0, 1, 2, 3, 4] bcast_S2x128x16x64x1_S2x128x16x64x576_0_1_2_3_4
              (broadcastInDim S2x128x16x64x1 ![0, 1, 2, 3] bcast_S2x128x16x64_S2x128x16x64x1_0_1_2_3
                (Host.reduceAdd
                  (Host.exp
                    (subf y
                      (broadcastInDim S2x128x16x64x576 ![0, 1, 2, 3, 4] bcast_S2x128x16x64x1_S2x128x16x64x576_0_1_2_3_4
                        (broadcastInDim S2x128x16x64x1 ![0, 1, 2, 3] bcast_S2x128x16x64_S2x128x16x64x1_0_1_2_3
                          (maximumf
                            (broadcastInDim S2x128x16x64 ![] bcast_S_S2x128x16x64 (constant S_ FTy.f32 4286578688#32))
                            (Host.reduce FloatOps.maximumf y (constant S_ FTy.f32 4286578688#32)
                              reducesTo_S2x128x16x64x576_S2x128x16x64_d4 h_S_))))))
                  (constant S_ FTy.f32 0#32) reducesTo_S2x128x16x64x576_S2x128x16x64_d4 h_S_)))))
        transposes_S2x128x16x64x64_S2x128x64x16x64_0_1_4_2_3)
      shapeCasts_S2x128x64x16x64_S2x8192x1024 (ix3 b s k) =
    ∑ x : Fin 576, z (ix5 b ⟨s.val / 64, by omega⟩ x ⟨k.val / 64, by omega⟩ ⟨k.val % 64, by omega⟩)
      * Ideal.div (Ideal.exp (y (ix5 b ⟨s.val / 64, by omega⟩ ⟨k.val / 64, by omega⟩ ⟨s.val % 64, by omega⟩ x)
            - Finset.univ.fold max ⊥ (fun x => y (ix5 b ⟨s.val / 64, by omega⟩ ⟨k.val / 64, by omega⟩ ⟨s.val % 64, by omega⟩ x))))
          (∑ x, Ideal.exp (y (ix5 b ⟨s.val / 64, by omega⟩ ⟨k.val / 64, by omega⟩ ⟨s.val % 64, by omega⟩ x)
            - Finset.univ.fold max ⊥ (fun x => y (ix5 b ⟨s.val / 64, by omega⟩ ⟨k.val / 64, by omega⟩ ⟨s.val % 64, by omega⟩ x)))) := by
  rw [rows_of, dot_of]
  refine Finset.sum_congr rfl fun j _ => ?_
  rw [div_of, exps_of, top_of]
  refine congrArg (fun t => _ * Ideal.div _ t) (Finset.sum_congr rfl fun j _ => ?_)
  rw [exps_of, top_of]

/-- The gated residual of any row `y`, entry by entry. -/
theorem post_of (x : FVec Ideal S2x8192x1024 .f32) (md : FVec Ideal S2x3x1024 .f32) (g : FVec Ideal S2x1024 .f32) (y : FVec Ideal S2x8192x1024 .f32)
    (b : Fin 2) (s : Fin 8192) (j : Fin 1024) :
    addf x
      (mulf
        (broadcastInDim S2x8192x1024 ![0, 1, 2] bcast_S2x1x1024_S2x8192x1024_0_1_2
          (broadcastInDim S2x1x1024 ![0, 2] bcast_S2x1024_S2x1x1024_0_2
            (shapeCast S2x1024 (extractStridedSlice S2x1x1024 ![0, 2, 0] md slices_S2x3x1024_S2x1x1024_0_2_0)
              shapeCasts_S2x1x1024_S2x1024)))
        (mulf
          (mulf y
            (broadcastInDim S2x8192x1024 ![0, 1, 2] bcast_S2x8192x1_S2x8192x1024_0_1_2
              (Host.rsqrt
                (addf
                  (Host.divf
                    (broadcastInDim S2x8192x1 ![0, 1] bcast_S2x8192_S2x8192x1_0_1
                      (Host.reduceAdd (mulf y y) (constant S_ FTy.f32 0#32) reducesTo_S2x8192x1024_S2x8192_d2 h_S_))
                    (broadcastInDim S2x8192x1 ![] bcast_S_S2x8192x1 (constant S_ FTy.f32 1149239296#32)))
                  (broadcastInDim S2x8192x1 ![] bcast_S_S2x8192x1 (constant S_ FTy.f32 897988541#32))))))
          (broadcastInDim S2x8192x1024 ![0, 1, 2] bcast_S1x1x1024_S2x8192x1024_0_1_2
            (broadcastInDim S1x1x1024 ![2] bcast_S1024_S1x1x1024_2
              (shapeCast S1024 (extractStridedSlice S1x1024 ![1, 0] g slices_S2x1024_S1x1024_1_0)
                shapeCasts_S1x1024_S1024)))))
      (ix3 b s j) =
    post (fun k => x (ix3 b s k)) (fun k => y (ix3 b s k)) (fun k => g (ix2 1 k)) (fun k => md (ix3 b 2 k)) j := by
  pointwise []
  rfl

section Spec

variable (x : Vec Ideal S2x8192x1024 .f32) (md : Vec Ideal S2x3x1024 .f32) (g : Vec Ideal S2x1024 .f32)
  (w : Vec Ideal S1024x3072 .f32) (rb : Vec Ideal S16x513 .f32) (w' : Vec Ideal S1024x1024 .f32)

/-- The reference's attention row. -/
theorem v113_apply (b : Fin 2) (s : Fin 8192) (k : Fin 1024) :
    val_main_v113 (F := Ideal) x md g w rb (ix3 b s k) = ctxRow x md g w rb b s k := by
  unfold ctxRow ctx top
  simp only [← v99_apply, ← v84_apply]
  simp only [val_main_v113, val_main_v112, val_main_v111, val_main_v110, val_main_v109, val_main_v108, val_main_v107, val_main_cst_21, val_main_v106,
    val_main_v105, val_main_v104, val_main_v103, val_main_v102, val_main_v101, val_main_cst_20, val_main_v100, val_main_cst_19]
  exact soft_of _ _ b s k

/-- The reference's output projection. -/
theorem v114_apply (b : Fin 2) (s : Fin 8192) (k : Fin 1024) :
    val_main_v114 (F := Ideal) x md g w rb w' (ix3 b s k) = ∑ i, ctxRow x md g w rb b s i * w' (ix2 i k) := by
  simp only [← v113_apply]
  pointwise [val_main_v114]

/-- The reference's result, entry by entry. -/
theorem v132_apply (b : Fin 2) (s : Fin 8192) (j : Fin 1024) :
    val_main_v132 (F := Ideal) x md g w rb w' (ix3 b s j) = attn x md g w rb w' b s j := by
  unfold attn
  simp only [← v114_apply]
  simp only [val_main_v132, val_main_v131, val_main_v130, val_main_v129, val_main_v128, val_main_v127, val_main_v126, val_main_v125,
    val_main_v124, val_main_v123, val_main_v122, val_main_cst_24, val_main_v121, val_main_v120, val_main_cst_23, val_main_v119,
    val_main_v118, val_main_cst_22, val_main_v117, val_main_v116, val_main_v115, val_main_v29, val_main_v28, val_main_v27]
  exact post_of _ _ _ _ b s j

end Spec

end Cert.ReferenceIdeal.Val

end
-- ==== Proof.AttnProj.lean ====
/-
  The attention call's tile-wise projections, from the arrays.
-/
module

public import proofs.«01_k».proof.Proof.AttnTab
public import proofs.«01_k».proof.Proof.AttnRow
public import proofs.«01_k».proof.Proof.Rows
public import proofs.«01_k».proof.Proof.Pieces
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Attn Cert.Rows

/-- The query-key-value projection of a tile. -/
theorem pay27_apply (v15 : Vec Ideal S1x512x1024 .f32) (v17 v19 : Vec Ideal S1x1x1024 .f32) (v21 : Vec Ideal S1x1024 .f32)
    (v41 : Vec Ideal S1024x3072 .bf16) (r : Fin 512) (k : Fin 3072) :
    k0_pay27 (F := Ideal) (k0_pay24 v17) (k0_pay25 v19) (k0_pay26 v15 v21) v41 (ix2 r k)
      = ∑ i, pre (fun k => v15 (ix3 0 r k)) (fun k => v21 (ix2 0 k)) (fun k => v19 (ix3 0 0 k)) (fun k => v17 (ix3 0 0 k)) i
          * v41 (ix2 i k) := by
  pointwise [k0_pay27, k0_pay26, k0_pay25, k0_pay24, k0_pay23]
  rfl

/-- The tile the call stores: the residual plus the normalised product of the context with the output weight. -/
theorem pay1_apply (v15 : Vec Ideal S1x512x1024 .f32) (v65 : Vec Ideal S512x1024 .bf16) (v66 : Vec Ideal S1024x1024 .bf16)
    (v69 : Vec Ideal S1x1x1024 .f32) (v71 : Vec Ideal S1x1024 .f32) (r : Fin 512) (j : Fin 1024) :
    k0_pay1 (F := Ideal) (k0_pay23 v15) (k0_pay33 v65 v66) v69 v71 (ix3 0 r j)
      = post (fun k => v15 (ix3 0 r k)) (fun k => ∑ i, v65 (ix2 r i) * v66 (ix2 i k)) (fun k => v71 (ix2 0 k))
          (fun k => v69 (ix3 0 0 k)) j := by
  pointwise [k0_pay1, k0_pay23, k0_pay33]
  rfl

/-- `pay1_apply` with every operand's entries told by name. -/
theorem pay1_of (v15 : Vec Ideal S1x512x1024 .f32) (v65 : Vec Ideal S512x1024 .bf16) (v66 : Vec Ideal S1024x1024 .bf16)
    (v69 : Vec Ideal S1x1x1024 .f32) (v71 : Vec Ideal S1x1024 .f32) (r : Fin 512) (j : Fin 1024)
    {x z gn gt : Fin 1024 → EReal} {w : Fin 1024 → Fin 1024 → EReal} (h15 : ∀ k, v15 (ix3 0 r k) = x k)
    (h65 : ∀ k, v65 (ix2 r k) = z k) (h66 : ∀ i k, v66 (ix2 i k) = w i k) (h71 : ∀ k, v71 (ix2 0 k) = gn k)
    (h69 : ∀ k, v69 (ix3 0 0 k) = gt k) :
    k0_pay1 (F := Ideal) (k0_pay23 v15) (k0_pay33 v65 v66) v69 v71 (ix3 0 r j)
      = post x (fun k => ∑ i, z i * w i k) gn gt j := by
  rw [pay1_apply]
  simp only [h15, h65, h66, h71, h69]

/-- The word that says whether a key slot is visible. -/
theorem visible_word : ∀ (k : Fin 1024) (n : Fin 16),
    IntOp.ori (IntOp.cmpi .sge (BitVec.ofNat 32 k.val) 512#32) (Scalar.cmpi .sgt (BitVec.ofNat 32 n.val) 0#32)
      = if 512 ≤ k.val ∨ 0 < n.val then 1#1 else 0#1 := by decide +kernel

/-- The mask row of a tile: `⊥` on the 512 columns before the first tile's own, zero elsewhere. -/
theorem pay22_apply (i : grid0.Coords) (r : Fin 8) (k : Fin 1024) :
    k0_pay22 (F := Ideal) i (ix2 r k) = if 512 ≤ k.val ∨ 0 < (i 1).val then (0 : EReal) else ⊥ := by
  pointwise [k0_pay22]
  refine (congrArg (fun z => Scalar.select z _ _) (visible_word k (i 1))).trans ?_
  by_cases hc : 512 ≤ k.val ∨ 0 < (i 1).val
  · rw [if_pos hc, if_pos hc]; rfl
  · rw [if_neg hc, if_neg hc]; rfl

variable (m : (ℓ : Loc nD τ sig) → Buf (Elt Ideal) ℓ) (ρ : Dev nD → PrngReg)

/-- Which block of each array a point reads. -/
theorem idx : ∀ t : Fin grid0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![0, 0, 0] ∧ win0_5.index t = ![0, 0]
    ∧ win0_6.index t = ![(grid0.coords t 0).val, (grid0.coords t 1).val, 0] := by
  decide +kernel

/-- The batch and the tile of a point. -/
theorem coords : ∀ t : Fin grid0.N, (grid0.coords t 0).val = t.val / 16 ∧ (grid0.coords t 1).val = t.val % 16 := by
  decide +kernel

/-- The position of row `r` of a point's tile. -/
abbrev pos (t : Fin cfg0.N) (r : Fin 512) : Fin 8192 := ⟨512 * (grid0.coords t 1).val + r.val, by
  have h : (grid0.coords t 1).val < 16 := (grid0.coords t 1).isLt
  omega⟩

/-- The batch of a point. -/
abbrev bat (t : Fin cfg0.N) : Fin 2 := ⟨(grid0.coords t 0).val, (grid0.coords t 0).isLt⟩

/-- Column `k` of the projection at batch `b`, position `s` of device `c`'s arrays. -/
abbrev P (c : Dev nD) (b : Fin 2) (s : Fin 8192) (k : Fin 3072) : EReal :=
  Cert.ReferenceIdeal.Val.proj (m ((c.tc : Thread nD τ).loc main_arg0)) (m ((c.tc : Thread nD τ).loc main_arg1))
    (m ((c.tc : Thread nD τ).loc main_arg2)) (m ((c.tc : Thread nD τ).loc main_arg3)) b s k

/-- The normalised tile's operands, from a point's blocks: shift, scale, the normalised rows. -/
abbrev tSh (c : Dev nD) (t : Fin cfg0.N) : FVec Ideal S1x1024 .f32 :=
  k0_pay24 (F := Ideal) (View.ld (iblk m c 1 t) (Rect.unit ![0, 0, 0] ![1, 1, 1024] inb_S1x3x1024_S1x1x1024_0_0_0))
abbrev tSc (c : Dev nD) (t : Fin cfg0.N) : FVec Ideal S1x1024 .f32 :=
  k0_pay25 (F := Ideal) (View.ld (iblk m c 1 t) (Rect.unit ![0, 1, 0] ![1, 1, 1024] inb_S1x3x1024_S1x1x1024_0_1_0))
abbrev tNm (c : Dev nD) (t : Fin cfg0.N) : FVec Ideal S512x1024 .f32 :=
  k0_pay26 (F := Ideal) (iblk m c 0 t) (View.ld (iblk m c 2 t) (Rect.unit ![0, 0] ![1, 1024] inb_S2x1024_S1x1024_0_0))

/-- The tile's projection, from the arrays. -/
theorem tile_apply (c : Dev nD) (t : Fin cfg0.N) (r : Fin 512) (k : Fin 3072) :
    k0_pay27 (F := Ideal) (tSh m c t) (tSc m c t) (tNm m c t) (iblk m c 3 t) (ix2 r k) = P m c (bat t) (pos t r) k := by
  unfold P Cert.ReferenceIdeal.Val.proj
  rw [pay27_apply]
  blk_point [iblk, V, idx t]

/-- The tile's scaled queries. -/
theorem tileQ (c : Dev nD) (t : Fin cfg0.N) (r : Fin 512) (k : Fin 1024) :
    k0_pay28 (F := Ideal) (tSh m c t) (tSc m c t) (tNm m c t) (iblk m c 3 t) (ix2 r k)
      = P m c (bat t) (pos t r) ⟨k.val, by omega⟩ * (((Real.log 256)⁻¹ : ℝ) : EReal) := by
  rw [← tile_apply]
  generalize tSh m c t = a
  generalize tSc m c t = b
  generalize tNm m c t = d
  pointwise [k0_pay28]
  rfl

/-- The tile's keys. -/
theorem tileK (c : Dev nD) (t : Fin cfg0.N) (r : Fin 512) (k : Fin 1024) :
    k0_pay29 (F := Ideal) (tSh m c t) (tSc m c t) (tNm m c t) (iblk m c 3 t) (ix2 r k)
      = P m c (bat t) (pos t r) ⟨1024 + k.val, by omega⟩ := by
  rw [← tile_apply]
  generalize tSh m c t = a
  generalize tSc m c t = b
  generalize tNm m c t = d
  pointwise [k0_pay29]

/-- The tile's values. -/
theorem tileV (c : Dev nD) (t : Fin cfg0.N) (r : Fin 512) (k : Fin 1024) :
    k0_pay30 (F := Ideal) (tSh m c t) (tSc m c t) (tNm m c t) (iblk m c 3 t) (ix2 r k)
      = P m c (bat t) (pos t r) ⟨2048 + k.val, by omega⟩ := by
  rw [← tile_apply]
  generalize tSh m c t = a
  generalize tSc m c t = b
  generalize tNm m c t = d
  pointwise [k0_pay30]

end Cert.KernelIdeal.Val

end
-- ==== Proof.AttnMath.lean ====
/-
  The arithmetic of a softmax over a band, on the extended reals: with real scores (or `⊥` for a hidden key), the maximum, the
  exponentials and their sum taken over 640 slots of which all outside the band are hidden, in base two, give the same weighted
  sum as over the band's 576 slots in base e.
-/
module

public import Idealize.ShloMosaic.Lib.Pipeline.Value
public import Idealize.ShloMosaic.Lib.Pointwise
public import Idealize.ShloMosaic.Lib.IdealHost

@[expose] public section

noncomputable section

open Idealize.ShloMosaic

namespace Cert.Band

/-- The base-two logarithm of e. -/
abbrev lg : EReal := (((Real.log 2)⁻¹ : ℝ) : EReal)

/-- A value that is a real number. -/
def IsReal (z : EReal) : Prop := ∃ r : ℝ, z = (r : EReal)

/-- A real number is real. -/
theorem IsReal.coe (r : ℝ) : IsReal (r : EReal) := ⟨r, rfl⟩
/-- Zero is real. -/
theorem IsReal.zero : IsReal 0 := ⟨0, rfl⟩
/-- One is real. -/
theorem IsReal.one : IsReal 1 := ⟨1, rfl⟩
/-- A sum of two reals is real. -/
theorem IsReal.add {a b : EReal} : IsReal a → IsReal b → IsReal (a + b) := by
  rintro ⟨x, rfl⟩ ⟨y, rfl⟩; exact ⟨x + y, (EReal.coe_add x y).symm⟩
/-- A product of two reals is real. -/
theorem IsReal.mul {a b : EReal} : IsReal a → IsReal b → IsReal (a * b) := by
  rintro ⟨x, rfl⟩ ⟨y, rfl⟩; exact ⟨x * y, (EReal.coe_mul x y).symm⟩
/-- A finite sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]
/-- A finite sum of reals is real. -/
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The logarithm of two is positive. -/
theorem log2_pos : 0 < Real.log 2 := Real.log_pos (by norm_num)

/-- The exponential in base two of `x · log₂ e` is the exponential of `x`. -/
theorem exp2_lg (x : ℝ) : Ideal.exp2 ((x * (Real.log 2)⁻¹ : ℝ) : EReal) = ((Real.exp x : ℝ) : EReal) := by
  rw [Ideal.exp2_coe]
  congr 1
  show (2 : ℝ) ^ (x * (Real.log 2)⁻¹) = Real.exp x
  rw [Real.rpow_def_of_pos (by norm_num)]
  congr 1
  have := log2_pos.ne'
  field_simp

/-- Minus infinity times `lg` is minus infinity. -/
theorem bot_mul_lg : (⊥ : EReal) * lg = ⊥ := EReal.bot_mul_coe_of_pos (inv_pos.mpr log2_pos)

/-- A sum over 640 slots that vanishes outside the band is the sum over the band. -/
theorem sum_band (w : ℕ) (hw : w + 576 ≤ 640) (f : Fin 640 → EReal) (h0 : ∀ c : Fin 640, (c.val < w ∨ w + 576 ≤ c.val) → f c = 0) :
    ∑ c, f c = ∑ j : Fin 576, f ⟨w + j.val, by omega⟩ := by
  symm
  refine Finset.sum_of_injOn (fun j : Fin 576 => (⟨w + j.val, by omega⟩ : Fin 640)) ?_ ?_ ?_ ?_
  · intro a _ b _ hab
    have := congrArg Fin.val hab
    simp only at this
    exact Fin.ext (by omega)
  · intro a _; simp
  · intro c _ hc
    apply h0
    by_contra hcon
    push Not at hcon
    exact hc ⟨⟨c.val - w, by omega⟩, by simp, Fin.ext (by show w + (c.val - w) = c.val; omega)⟩
  · intro _ _; rfl

/-- The softmax over the band, in base two over 640 slots on one side and in base e over the band's slots on the other. -/
theorem softmax_band (w : ℕ) (hw : w + 576 ≤ 640) (u V : Fin 640 → EReal) (s V' : Fin 576 → EReal)
    (hin : ∀ j : Fin 576, u ⟨w + j.val, by omega⟩ = s j * lg)
    (hout : ∀ c : Fin 640, (c.val < w ∨ w + 576 ≤ c.val) → u c = ⊥)
    (hs : ∀ j, s j = ⊥ ∨ IsReal (s j)) (hex : ∃ j, IsReal (s j))
    (hV : ∀ j, IsReal (V' j)) (hVV : ∀ j : Fin 576, V ⟨w + j.val, by omega⟩ = V' j) :
    (∑ c, Ideal.exp2 (u c - Finset.univ.fold max ⊥ u) * V c)
        * Ideal.div 1 (∑ c, Ideal.exp2 (u c - Finset.univ.fold max ⊥ u))
      = ∑ j, V' j * Ideal.div (Ideal.exp (s j - Finset.univ.fold max ⊥ s))
          (∑ j, Ideal.exp (s j - Finset.univ.fold max ⊥ s)) := by
  obtain ⟨j1, r1, hr1⟩ := hex
  have hM' : ∃ m : ℝ, (∃ j, s j = (m : EReal)) ∧ Finset.univ.fold max ⊥ s = (m : EReal) := by
    obtain ⟨j, _, hj⟩ := Finset.exists_mem_eq_sup (Finset.univ : Finset (Fin 576)) ⟨j1, Finset.mem_univ _⟩ s
    have hj' : Finset.univ.fold max ⊥ s = s j := hj
    rcases hs j with h | ⟨m, hm⟩
    · exfalso
      have : s j1 ≤ Finset.univ.sup s := Finset.le_sup (Finset.mem_univ _)
      rw [hj, h, hr1] at this
      exact absurd (le_bot_iff.mp this) (EReal.coe_ne_bot r1)
    · exact ⟨m, ⟨j, hm⟩, hj'.trans hm⟩
  obtain ⟨m, ⟨j0, hj0⟩, hm⟩ := hM'
  have hle : ∀ j, s j ≤ (m : EReal) := fun j => by
    rw [← hm]; exact Finset.le_sup (f := s) (Finset.mem_univ _)
  have hM : Finset.univ.fold max ⊥ u = ((m * (Real.log 2)⁻¹ : ℝ) : EReal) := by
    refine le_antisymm ?_ ?_
    · refine Finset.sup_le (f := u) fun c _ => ?_
      by_cases hc : c.val < w ∨ w + 576 ≤ c.val
      · rw [hout c hc]; exact bot_le
      · push Not at hc
        have hcc : c = ⟨w + (⟨c.val - w, by omega⟩ : Fin 576).val, by simp only; omega⟩ := Fin.ext (by simp only; omega)
        rw [hcc, hin]
        rcases hs ⟨c.val - w, by omega⟩ with h | ⟨r, hr⟩
        · rw [h, bot_mul_lg]; exact bot_le
        · have := hle ⟨c.val - w, by omega⟩
          rw [hr] at this ⊢
          rw [← EReal.coe_mul]
          exact_mod_cast mul_le_mul_of_nonneg_right (by exact_mod_cast this) (inv_pos.mpr log2_pos).le
    · rw [EReal.coe_mul, ← hj0, ← hin]
      exact Finset.le_sup (f := u) (Finset.mem_univ _)
  have hA : ∀ j, ∃ a : ℝ, 0 ≤ a ∧ Ideal.exp (s j - (m : EReal)) = (a : EReal)
      ∧ Ideal.exp2 (u ⟨w + j.val, by omega⟩ - ((m * (Real.log 2)⁻¹ : ℝ) : EReal)) = (a : EReal) := by
    intro j
    rcases hs j with h | ⟨r, hr⟩
    · refine ⟨0, le_rfl, ?_, ?_⟩
      · rw [h, EReal.bot_sub]; simp
      · rw [hin, h, bot_mul_lg, EReal.bot_sub]; simp
    · refine ⟨Real.exp (r - m), (Real.exp_pos _).le, ?_, ?_⟩
      · rw [hr, ← EReal.coe_sub, Ideal.exp_coe]
      · rw [hin, hr, ← EReal.coe_mul, ← EReal.coe_sub, ← sub_mul, exp2_lg]
  choose a ha0 ha1 ha2 using hA
  have h1 : a j0 = 1 := by
    have := ha1 j0
    rw [hj0, ← EReal.coe_sub, sub_self, Ideal.exp_coe, Real.exp_zero] at this
    exact_mod_cast this.symm
  have hD : 0 < ∑ j, a j := lt_of_lt_of_le (by rw [h1]; norm_num : (0 : ℝ) < a j0)
    (Finset.single_le_sum (fun i _ => ha0 i) (Finset.mem_univ j0))
  choose v hv using hV
  rw [hm, hM]
  have hz : ∀ c : Fin 640, (c.val < w ∨ w + 576 ≤ c.val) → Ideal.exp2 (u c - ((m * (Real.log 2)⁻¹ : ℝ) : EReal)) = 0 := fun c hc => by
    rw [hout c hc, EReal.bot_sub]; simp
  rw [sum_band w hw _ hz, sum_band w hw _ (fun c hc => by rw [hz c hc, zero_mul])]
  simp only [ha1, ha2, hVV, hv]
  rw [← coe_sum]
  have hdiv : ∀ x : ℝ, Ideal.div (x : EReal) ((∑ j, a j : ℝ) : EReal) = ((x * (∑ j, a j)⁻¹ : ℝ) : EReal) := by
    intro x
    unfold Ideal.div
    rw [if_neg (by exact_mod_cast hD.ne'), EReal.coe_mul, EReal.coe_inv]
  rw [show (1 : EReal) = ((1 : ℝ) : EReal) from rfl, hdiv]
  simp only [hdiv, ← EReal.coe_mul, ← coe_sum]
  congr 1
  rw [Finset.sum_mul]
  refine Finset.sum_congr rfl fun j _ => ?_
  ring

end Cert.Band

end
-- ==== Proof.AttnPair.lean ====
/-
  One pair of heads over one group of 128 query rows, as the attention kernel computes it.
-/
module

public import proofs.«01_k».proof.Defs
public import proofs.«01_k».proof.Proof.Rows
public import proofs.«01_k».proof.Proof.AttnMath
public import proofs.«01_k».proof.Proof.AttnIx
public import proofs.«01_k».proof.Proof.Gen.KernelIdeal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Val

open Cert.KernelIdeal Cert.KernelIdeal.Gen Cert.Rows

/-- What one pair of heads computes over 128 query rows and 640 keys. -/
abbrev pair (mk : Vec Ideal S1x640 .f32) (q : Vec Ideal S128x128 .bf16) (k v : Vec Ideal S640x128 .bf16) (bias : Vec Ideal S1x256x640 .f32) :
    FVec Ideal S128x128 .bf16 :=
  k0_pay4 (F := Ideal) k0_pay31 mk q k v bias

/-- A lane's half: the lanes below 64 are the pair's first head. -/
theorem half_apply (r e : Fin 128) : k0_pay31 (ix2 r e) = if e.val < 64 then 1#1 else 0#1 := by
  have h : ∀ e : Fin 128, IntOp.cmpi CmpIPredicate.slt (BitVec.ofNat 32 e.val) 64#32 = if e.val < 64 then 1#1 else 0#1 := by
    decide +kernel
  rw [← h]
  pointwise [k0_pay31]

/-- The score a row of a half gives a key, in base two. -/
def uscore (mk : Vec Ideal S1x640 .f32) (q : Vec Ideal S128x128 .bf16) (k : Vec Ideal S640x128 .bf16) (bias : Vec Ideal S1x256x640 .f32)
    (h : Fin 2) (r : Fin 128) (c : Fin 640) : EReal :=
  (∑ e : Fin 128, (if e.val / 64 = h.val then q (ix2 r e) else 0) * k (ix2 c e)) + bias (ix3 0 ⟨h.val * 128 + r.val, by omega⟩ c) * Cert.Band.lg
    + mk (ix2 0 c)

/-- One entry of the context of a pair of heads. -/
theorem pair_apply (mk : Vec Ideal S1x640 .f32) (q : Vec Ideal S128x128 .bf16) (k v : Vec Ideal S640x128 .bf16) (bias : Vec Ideal S1x256x640 .f32)
    (r e : Fin 128) : pair mk q k v bias (ix2 r e)
      = (∑ c, Ideal.exp2 (uscore mk q k bias ⟨e.val / 64, by omega⟩ r c - Finset.univ.fold max ⊥ (uscore mk q k bias ⟨e.val / 64, by omega⟩ r)) * v (ix2 c e))
        * Ideal.div 1 (∑ c, Ideal.exp2 (uscore mk q k bias ⟨e.val / 64, by omega⟩ r c - Finset.univ.fold max ⊥ (uscore mk q k bias ⟨e.val / 64, by omega⟩ r))) := by
  have hl : Named.named (F := Ideal) κ "log2e" (φ := .f32) 1069066811#32 = Cert.Band.lg := rfl
  have hb : Ideal.ofBits .f32 4286578688#32 = ⊥ := Cert.Ix.ofBits_bot
  have s1 : ∀ a b : EReal, Scalar.select (1#1) a b = a := fun _ _ => rfl
  have s0 : ∀ a b : EReal, Scalar.select (0#1) a b = b := fun _ _ => rfl
  have hA : ∀ c, (∑ x : Fin 128, Scalar.select (k0_pay31 (ix2 r x)) (q (ix2 r x) * k (ix2 c x)) 0)
      + bias (ix3 0 ⟨r.val, by omega⟩ c) * Cert.Band.lg + mk (ix2 0 c) = uscore mk q k bias 0 r c := by
    intro c
    unfold uscore
    have h0 : ∀ x : Fin 128, Scalar.select (k0_pay31 (ix2 r x)) (q (ix2 r x) * k (ix2 c x)) 0
        = (if x.val / 64 = (0 : Fin 2).val then q (ix2 r x) else 0) * k (ix2 c x) := by
      intro x
      rw [half_apply]
      by_cases hx : x.val < 64
      · rw [if_pos hx, if_pos (show x.val / 64 = (0 : Fin 2).val by simp; omega)]; rfl
      · rw [if_neg hx, if_neg (show ¬ x.val / 64 = (0 : Fin 2).val by simp; omega), zero_mul]; rfl
    rw [Finset.sum_congr rfl fun x _ => h0 x]
    have e : (⟨(0 : Fin 2).val * 128 + r.val, by simp; omega⟩ : Fin 256) = ⟨r.val, by omega⟩ := Fin.ext (show 0 * 128 + r.val = r.val by omega)
    rw [e]
  have hB : ∀ c, (∑ x : Fin 128, Scalar.select (k0_pay31 (ix2 r x)) 0 (q (ix2 r x) * k (ix2 c x)))
      + bias (ix3 0 ⟨128 + r.val, by omega⟩ c) * Cert.Band.lg + mk (ix2 0 c) = uscore mk q k bias 1 r c := by
    intro c
    unfold uscore
    have h0 : ∀ x : Fin 128, Scalar.select (k0_pay31 (ix2 r x)) 0 (q (ix2 r x) * k (ix2 c x))
        = (if x.val / 64 = (1 : Fin 2).val then q (ix2 r x) else 0) * k (ix2 c x) := by
      intro x
      rw [half_apply]
      by_cases hx : x.val < 64
      · rw [if_pos hx, if_neg (show ¬ x.val / 64 = (1 : Fin 2).val by simp; omega), zero_mul]; rfl
      · rw [if_neg hx, if_pos (show x.val / 64 = (1 : Fin 2).val by simp; omega)]; rfl
    rw [Finset.sum_congr rfl fun x _ => h0 x]
    congr 4
  unfold pair
  pointwise [k0_pay4]
  simp only [hl, hb]
  simp only [hA, hB]
  rw [half_apply]
  by_cases he : e.val < 64
  · have e0 : (⟨e.val / 64, by omega⟩ : Fin 2) = 0 := Fin.ext (show e.val / 64 = 0 by omega)
    rw [e0, if_pos he, s1]
    rfl
  · have e1 : (⟨e.val / 64, by omega⟩ : Fin 2) = 1 := Fin.ext (show e.val / 64 = 1 by omega)
    rw [e1, if_neg he, s0]
    rfl

end Cert.KernelIdeal.Val

end
-- ==== Proof.AttnPiece.lean ====
/-
  The loop over query groups: what its trips leave in the context scratch, entry by entry.
-/
module

public import proofs.«01_k».proof.Proof.AttnPair
public import proofs.«01_k».proof.Proof.Pieces
public import proofs.«01_k».proof.Proof.Gen.KernelIdeal.Loops
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Val

open Cert.KernelIdeal Cert.KernelIdeal.Gen Cert.Rows

section Context

variable (fm : Vec Ideal S8x1024 .f32) (fq : Vec Ideal S512x1024 .bf16) (fk fv : Vec Ideal S1024x1024 .bf16) (fb : Vec Ideal S8x256x640 .f32)

/-- The score, in base two, that the query in row `y0` of the tile gives key `c` of its group, for the head of column `y1`. -/
def uval (y0 : Fin 512) (y1 : Fin 1024) (c : Fin 640) : EReal :=
  (∑ e : Fin 128, (if e.val / 64 = y1.val % 128 / 64 then fq (ix2 y0 ⟨128 * (y1.val / 128) + e.val, by omega⟩) else 0)
      * fk (ix2 ⟨128 * (y0.val / 128) + c.val, by omega⟩ ⟨128 * (y1.val / 128) + e.val, by omega⟩))
    + fb (ix3 ⟨y1.val / 128, by omega⟩ ⟨y1.val % 128 / 64 * 128 + y0.val % 128, by omega⟩ c) * Cert.Band.lg
    + fm (ix2 0 ⟨128 * (y0.val / 128) + c.val, by omega⟩)

/-- The context entry of row `y0` and column `y1`. -/
def uctx (y0 : Fin 512) (y1 : Fin 1024) : EReal :=
  (∑ c : Fin 640, Ideal.exp2 (uval fm fq fk fb y0 y1 c - Finset.univ.fold max ⊥ (uval fm fq fk fb y0 y1))
      * fv (ix2 ⟨128 * (y0.val / 128) + c.val, by omega⟩ y1))
    * Ideal.div 1 (∑ c, Ideal.exp2 (uval fm fq fk fb y0 y1 c - Finset.univ.fold max ⊥ (uval fm fq fk fb y0 y1)))

/-- The context scratch as one array. -/
def uarr : Vec Ideal S512x1024 .bf16 := fun y => uctx fm fq fk fv fb (y 0) (y 1)

/-- A pair's block of the context scratch is that block of the array. -/
theorem piece_eq (k p : ℕ) (hk : k < 4) (hp : p < 8) {om oq ok o : Fin 2 → ℕ} {ob : Fin 3 → ℕ} (hm : om = ![0, 128 * k]) (hq : oq = ![128 * k, 128 * p])
    (hkv : ok = ![128 * k, 128 * p]) (ho : o = ![128 * k, 128 * p]) (hb : ob = ![p, 0, 0])
    (im : ∀ a, om a + S1x640.size a ≤ S8x1024.size a) (iq : ∀ a, oq a + S128x128.size a ≤ S512x1024.size a)
    (ik : ∀ a, ok a + S640x128.size a ≤ S1024x1024.size a) (ib : ∀ a, ob a + S1x256x640.size a ≤ S8x256x640.size a)
    (io : ∀ a, o a + S128x128.size a ≤ S512x1024.size a) (x : S128x128.Idx) :
    pair (View.ld fm (Rect.unit om S1x640.size im)) (View.ld fq (Rect.unit oq S128x128.size iq)) (View.ld fk (Rect.unit ok S640x128.size ik))
        (View.ld fv (Rect.unit ok S640x128.size ik)) (View.ld fb (Rect.unit ob S1x256x640.size ib)) x
      = uarr fm fq fk fv fb ((Rect.unit (s := S512x1024) o S128x128.size io).emb x) := by
  subst hm hq hkv ho hb
  idx_vars x
  rw [pair_apply]
  have hx : (Rect.unit (s := S512x1024) ![128 * k, 128 * p] S128x128.size io).emb (ix2 x0 x1)
      = ix2 ⟨128 * k + x0.val, by omega⟩ ⟨128 * p + x1.val, by omega⟩ := by
    funext a
    fin_cases a <;> exact Fin.ext (by simp [Rect.unit, Rect.emb])
  rw [hx]
  show _ = uctx fm fq fk fv fb ⟨128 * k + x0.val, by omega⟩ ⟨128 * p + x1.val, by omega⟩
  have hu : uscore (View.ld fm (Rect.unit ![0, 128 * k] S1x640.size im)) (View.ld fq (Rect.unit ![128 * k, 128 * p] S128x128.size iq))
      (View.ld fk (Rect.unit ![128 * k, 128 * p] S640x128.size ik)) (View.ld fb (Rect.unit ![p, 0, 0] S1x256x640.size ib)) ⟨x1.val / 64, by omega⟩ x0
      = uval fm fq fk fb ⟨128 * k + x0.val, by omega⟩ ⟨128 * p + x1.val, by omega⟩ := by
    funext c
    unfold uscore uval
    have h1 : (128 * p + x1.val) % 128 = x1.val := by omega
    have h2 : (128 * p + x1.val) / 128 = p := by omega
    have h3 : (128 * k + x0.val) % 128 = x0.val := by omega
    have h4 : (128 * k + x0.val) / 128 = k := by omega
    simp only [h1, h2, h3, h4]
    refine congrArg₂ (· + ·) (congrArg₂ (· + ·) (Finset.sum_congr rfl fun e _ => ?_) ?_) ?_
    · refine congrArg₂ (· * ·) ?_ ?_
      · rw [Pieces.ld_unit fq iq (ix2 x0 e) (ix2 ⟨128 * k + x0.val, by omega⟩ ⟨128 * p + e.val, by omega⟩) (by intro a; fin_cases a <;> simp)]
      · rw [Pieces.ld_unit fk ik (ix2 c e) (ix2 ⟨128 * k + c.val, by omega⟩ ⟨128 * p + e.val, by omega⟩) (by intro a; fin_cases a <;> simp)]
    · rw [Pieces.ld_unit fb ib (ix3 0 ⟨x1.val / 64 * 128 + x0.val, by omega⟩ c) (ix3 ⟨p, hp⟩ ⟨x1.val / 64 * 128 + x0.val, by omega⟩ c) (by intro a; fin_cases a <;> simp)]
    · rw [Pieces.ld_unit fm im (ix2 0 c) (ix2 0 ⟨128 * k + c.val, by omega⟩) (by intro a; fin_cases a <;> simp)]
  rw [hu]
  unfold uctx
  have h4 : (128 * k + x0.val) / 128 = k := by omega
  have hv : ∀ c : Fin 640, View.ld fv (Rect.unit ![128 * k, 128 * p] S640x128.size ik) (ix2 c x1)
      = fv (ix2 ⟨128 * ((128 * k + x0.val) / 128) + c.val, by omega⟩ ⟨128 * p + x1.val, by omega⟩) := by
    intro c
    rw [Pieces.ld_unit fv ik (ix2 c x1) (ix2 ⟨128 * ((128 * k + x0.val) / 128) + c.val, by omega⟩ ⟨128 * p + x1.val, by omega⟩)
      (by intro a; fin_cases a <;> simp; omega)]
  simp only [hv]

end Context

/-- Where block 1 of a trip starts. -/
theorem off1_eq : ∀ k : Fin k0_t1_loop.trips, k0_off1 k = ![0, 128 * k.val] := by decide +kernel
/-- Where block 2 of a trip starts. -/
theorem off2_eq : ∀ k : Fin k0_t1_loop.trips, k0_off2 k = ![128 * k.val, 0] := by decide +kernel
/-- Where block 3 of a trip starts. -/
theorem off3_eq : ∀ k : Fin k0_t1_loop.trips, k0_off3 k = ![128 * k.val, 0] := by decide +kernel
/-- Where block 4 of a trip starts. -/
theorem off4_eq : ∀ k : Fin k0_t1_loop.trips, k0_off4 k = ![128 * k.val, 128] := by decide +kernel
/-- Where block 5 of a trip starts. -/
theorem off5_eq : ∀ k : Fin k0_t1_loop.trips, k0_off5 k = ![128 * k.val, 128] := by decide +kernel
/-- Where block 6 of a trip starts. -/
theorem off6_eq : ∀ k : Fin k0_t1_loop.trips, k0_off6 k = ![128 * k.val, 256] := by decide +kernel
/-- Where block 7 of a trip starts. -/
theorem off7_eq : ∀ k : Fin k0_t1_loop.trips, k0_off7 k = ![128 * k.val, 256] := by decide +kernel
/-- Where block 8 of a trip starts. -/
theorem off8_eq : ∀ k : Fin k0_t1_loop.trips, k0_off8 k = ![128 * k.val, 384] := by decide +kernel
/-- Where block 9 of a trip starts. -/
theorem off9_eq : ∀ k : Fin k0_t1_loop.trips, k0_off9 k = ![128 * k.val, 384] := by decide +kernel
/-- Where block 10 of a trip starts. -/
theorem off10_eq : ∀ k : Fin k0_t1_loop.trips, k0_off10 k = ![128 * k.val, 512] := by decide +kernel
/-- Where block 11 of a trip starts. -/
theorem off11_eq : ∀ k : Fin k0_t1_loop.trips, k0_off11 k = ![128 * k.val, 512] := by decide +kernel
/-- Where block 12 of a trip starts. -/
theorem off12_eq : ∀ k : Fin k0_t1_loop.trips, k0_off12 k = ![128 * k.val, 640] := by decide +kernel
/-- Where block 13 of a trip starts. -/
theorem off13_eq : ∀ k : Fin k0_t1_loop.trips, k0_off13 k = ![128 * k.val, 640] := by decide +kernel
/-- Where block 14 of a trip starts. -/
theorem off14_eq : ∀ k : Fin k0_t1_loop.trips, k0_off14 k = ![128 * k.val, 768] := by decide +kernel
/-- Where block 15 of a trip starts. -/
theorem off15_eq : ∀ k : Fin k0_t1_loop.trips, k0_off15 k = ![128 * k.val, 768] := by decide +kernel
/-- Where block 16 of a trip starts. -/
theorem off16_eq : ∀ k : Fin k0_t1_loop.trips, k0_off16 k = ![128 * k.val, 896] := by decide +kernel
/-- Where block 17 of a trip starts. -/
theorem off17_eq : ∀ k : Fin k0_t1_loop.trips, k0_off17 k = ![128 * k.val, 896] := by decide +kernel

end Cert.KernelIdeal.Val

end
-- ==== Proof.AttnTrip.lean ====
/-
  The loop over query groups: what its trips leave in the context scratch, entry by entry.
-/
module

public import proofs.«01_k».proof.Proof.AttnPiece
public import proofs.«01_k».proof.Proof.Pieces
public import proofs.«01_k».proof.Proof.Gen.KernelIdeal.Loops
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Val

open Cert.KernelIdeal Cert.KernelIdeal.Gen Cert.Rows

/-- The loop has four trips. -/
theorem trips_lt : ∀ k : Fin k0_t1_loop.trips, k.val < 4 := by decide +kernel

set_option maxHeartbeats 2000000 in
/-- A block of 128 rows and 128 columns at the place of trip `k` and pair `p` lies within the
    array. -/
theorem io_of {o : Fin 2 → Nat} {k p : Nat} (ho : o = ![128 * k, 128 * p]) (hk : k < 4) (hp : p < 8) :
    ∀ a, o a + S128x128.size a ≤ S512x1024.size a := by
  subst ho
  intro a
  fin_cases a <;> simp <;> omega

/-- The pieces one trip writes are blocks of the context array. -/
theorem trip_pieces (𝒱 : Variants) (c : Dev nD) (bd : Option 𝒱.V) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (v18 : FVec Ideal S1x1024 .f32) (v20 : FVec Ideal S1x1024 .f32) (v33 : FVec Ideal S512x1024 .f32) (X_arg6 : BufTy.Contents (Elt Ideal) arg6.view.ty) (X_arg9 : BufTy.Contents (Elt Ideal) arg9.view.ty) (X_arg10 : BufTy.Contents (Elt Ideal) arg10.view.ty) (X_arg11 : BufTy.Contents (Elt Ideal) arg11.view.ty) (X_arg13 : BufTy.Contents (Elt Ideal) arg13.view.ty) (k : Fin k0_t1_loop.trips) :
    View.PiecesOf (uarr (arg13.view.read (Elt Ideal) X_arg13) (arg9.view.read (Elt Ideal) X_arg9) (arg10.view.read (Elt Ideal) X_arg10) (arg11.view.read (Elt Ideal) X_arg11) (arg6.view.read (Elt Ideal) X_arg6))
      (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 k) := by
  have hk := trips_lt k
  unfold tripL_k0_t1 trip_k0_t1
  refine ⟨fun x => ?_, fun x => ?_, fun x => ?_, fun x => ?_, fun x => ?_, fun x => ?_, fun x => ?_, fun x => ?_, trivial⟩
  · exact piece_eq (arg13.view.read (Elt Ideal) X_arg13) (arg9.view.read (Elt Ideal) X_arg9) (arg10.view.read (Elt Ideal) X_arg10) (arg11.view.read (Elt Ideal) X_arg11) (arg6.view.read (Elt Ideal) X_arg6) k.val 7 hk (by omega) (off1_eq k) (off16_eq k) (off17_eq k) (off16_eq k) rfl _ _ _ _ (io_of (off16_eq k) hk (by omega : 7 < 8)) x
  · exact piece_eq (arg13.view.read (Elt Ideal) X_arg13) (arg9.view.read (Elt Ideal) X_arg9) (arg10.view.read (Elt Ideal) X_arg10) (arg11.view.read (Elt Ideal) X_arg11) (arg6.view.read (Elt Ideal) X_arg6) k.val 6 hk (by omega) (off1_eq k) (off14_eq k) (off15_eq k) (off14_eq k) rfl _ _ _ _ (io_of (off14_eq k) hk (by omega : 6 < 8)) x
  · exact piece_eq (arg13.view.read (Elt Ideal) X_arg13) (arg9.view.read (Elt Ideal) X_arg9) (arg10.view.read (Elt Ideal) X_arg10) (arg11.view.read (Elt Ideal) X_arg11) (arg6.view.read (Elt Ideal) X_arg6) k.val 5 hk (by omega) (off1_eq k) (off12_eq k) (off13_eq k) (off12_eq k) rfl _ _ _ _ (io_of (off12_eq k) hk (by omega : 5 < 8)) x
  · exact piece_eq (arg13.view.read (Elt Ideal) X_arg13) (arg9.view.read (Elt Ideal) X_arg9) (arg10.view.read (Elt Ideal) X_arg10) (arg11.view.read (Elt Ideal) X_arg11) (arg6.view.read (Elt Ideal) X_arg6) k.val 4 hk (by omega) (off1_eq k) (off10_eq k) (off11_eq k) (off10_eq k) rfl _ _ _ _ (io_of (off10_eq k) hk (by omega : 4 < 8)) x
  · exact piece_eq (arg13.view.read (Elt Ideal) X_arg13) (arg9.view.read (Elt Ideal) X_arg9) (arg10.view.read (Elt Ideal) X_arg10) (arg11.view.read (Elt Ideal) X_arg11) (arg6.view.read (Elt Ideal) X_arg6) k.val 3 hk (by omega) (off1_eq k) (off8_eq k) (off9_eq k) (off8_eq k) rfl _ _ _ _ (io_of (off8_eq k) hk (by omega : 3 < 8)) x
  · exact piece_eq (arg13.view.read (Elt Ideal) X_arg13) (arg9.view.read (Elt Ideal) X_arg9) (arg10.view.read (Elt Ideal) X_arg10) (arg11.view.read (Elt Ideal) X_arg11) (arg6.view.read (Elt Ideal) X_arg6) k.val 2 hk (by omega) (off1_eq k) (off6_eq k) (off7_eq k) (off6_eq k) rfl _ _ _ _ (io_of (off6_eq k) hk (by omega : 2 < 8)) x
  · exact piece_eq (arg13.view.read (Elt Ideal) X_arg13) (arg9.view.read (Elt Ideal) X_arg9) (arg10.view.read (Elt Ideal) X_arg10) (arg11.view.read (Elt Ideal) X_arg11) (arg6.view.read (Elt Ideal) X_arg6) k.val 1 hk (by omega) (off1_eq k) (off4_eq k) (off5_eq k) (off4_eq k) rfl _ _ _ _ (io_of (off4_eq k) hk (by omega : 1 < 8)) x
  · exact piece_eq (arg13.view.read (Elt Ideal) X_arg13) (arg9.view.read (Elt Ideal) X_arg9) (arg10.view.read (Elt Ideal) X_arg10) (arg11.view.read (Elt Ideal) X_arg11) (arg6.view.read (Elt Ideal) X_arg6) k.val 0 hk (by omega) (off1_eq k) (off2_eq k) (off3_eq k) (off2_eq k) rfl _ _ _ _ (io_of (off2_eq k) hk (by omega : 0 < 8)) x

end Cert.KernelIdeal.Val

end
-- ==== Proof.AttnLoop.lean ====
/-
  What the loop over query groups leaves in the context scratch: the band attention of every row and column.
-/
module

public import proofs.«01_k».proof.Proof.AttnTrip
public import proofs.«01_k».proof.Proof.IFrame
public import Idealize.ShloMosaic.Lib.Pipeline.ReadBack

@[expose] public section

set_option maxRecDepth 16384

noncomputable section

open Idealize.ShloMosaic Idealize.ShloMosaic.TcCoe Idealize.SL.Sem Idealize.ShloMosaic.Tactic

namespace Cert.KernelIdeal.Val

open Cert.KernelIdeal Cert.KernelIdeal.Gen Cert.KernelIdeal.Attn

/-- Every piece the first `n` trips of the loop write is a block of the one array `uarr`. -/
theorem loop_pieces (𝒱 : Variants) (c : Dev nD) (bd : Option 𝒱.V) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (v18 : FVec Ideal S1x1024 .f32) (v20 : FVec Ideal S1x1024 .f32) (v33 : FVec Ideal S512x1024 .f32) (X_arg6 : BufTy.Contents (Elt Ideal) arg6.view.ty) (X_arg9 : BufTy.Contents (Elt Ideal) arg9.view.ty) (X_arg10 : BufTy.Contents (Elt Ideal) arg10.view.ty) (X_arg11 : BufTy.Contents (Elt Ideal) arg11.view.ty) (X_arg13 : BufTy.Contents (Elt Ideal) arg13.view.ty) (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 n, ∀ x : p.1.shape.Idx, p.2 x = (uarr (arg13.view.read (Elt Ideal) X_arg13) (arg9.view.read (Elt Ideal) X_arg9) (arg10.view.read (Elt Ideal) X_arg10) (arg11.view.read (Elt Ideal) X_arg11) (arg6.view.read (Elt Ideal) X_arg6)) (p.1.emb x) := by
  induction n with
  | zero => intro p hp; exact absurd hp List.not_mem_nil
  | succ n ih =>
    intro p hp
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 ⟨n, hn⟩
    rw [show pb_k0_t1 (F := Ideal) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (n + 1) = _ from e] at hp
    rcases List.mem_append.mp hp with h | h
    · exact (trip_pieces 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 ⟨n, hn⟩).mem p h
    · exact ih (Nat.le_of_succ_le hn) p h

/-- After the loop the context scratch is that array. -/
theorem loop_canon (𝒱 : Variants) (c : Dev nD) (bd : Option 𝒱.V) (i : grid0.Coords) (arg2 : Memref sig .tc .vmem S1x512x1024 .f32) (harg2 : arg2.IsWhole) (arg3 : Memref sig .tc .vmem S1x3x1024 .f32) (harg3 : arg3.IsWhole) (arg4 : Memref sig .tc .vmem S2x1024 .f32) (harg4 : arg4.IsWhole) (arg5 : Memref sig .tc .vmem S1024x3072 .bf16) (harg5 : arg5.IsWhole) (arg6 : Memref sig .tc .vmem S8x256x640 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S512x1024 .bf16) (harg12 : arg12.IsWhole) (arg13 : Memref sig .tc .vmem S8x1024 .f32) (harg13 : arg13.IsWhole) (v18 : FVec Ideal S1x1024 .f32) (v20 : FVec Ideal S1x1024 .f32) (v33 : FVec Ideal S512x1024 .f32) (X_arg6 : BufTy.Contents (Elt Ideal) arg6.view.ty) (X_arg9 : BufTy.Contents (Elt Ideal) arg9.view.ty) (X_arg10 : BufTy.Contents (Elt Ideal) arg10.view.ty) (X_arg11 : BufTy.Contents (Elt Ideal) arg11.view.ty) (X_arg13 : BufTy.Contents (Elt Ideal) arg13.view.ty) (y : S512x1024.Idx) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (Scf.trips k0_t1_loop.lb k0_t1_loop.ub k0_t1_loop.st)) y = (uarr (arg13.view.read (Elt Ideal) X_arg13) (arg9.view.read (Elt Ideal) X_arg9) (arg10.view.read (Elt Ideal) X_arg10) (arg11.view.read (Elt Ideal) X_arg11) (arg6.view.read (Elt Ideal) X_arg6)) y := by
  have h := View.canon_append_of_pieces (uarr (arg13.view.read (Elt Ideal) X_arg13) (arg9.view.read (Elt Ideal) X_arg9) (arg10.view.read (Elt Ideal) X_arg10) (arg11.view.read (Elt Ideal) X_arg11) (arg6.view.read (Elt Ideal) X_arg6)) [] (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (Scf.trips k0_t1_loop.lb k0_t1_loop.ub k0_t1_loop.st))
    (loop_pieces 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 _ (le_refl _)) y
    (View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v18 v20 v33 X_arg6 X_arg9 X_arg10 X_arg11 X_arg13 (Scf.trips k0_t1_loop.lb k0_t1_loop.ub k0_t1_loop.st)) S128x128.size (by sl_kernel_rfl) y)
  rwa [List.append_nil] at h

end Cert.KernelIdeal.Val

end
-- ==== Proof.AttnComb.lean ====
/-
  The kernel's row of context, as the loop leaves it, is the reference's: a softmax in base two over a window of 640 keys
  with `⊥` outside the band is the softmax over the band's 576 slots.
-/
module

public import proofs.«01_k».proof.Proof.AttnPiece
public import proofs.«01_k».proof.Proof.AttnRef
public import proofs.«01_k».proof.Proof.AttnMath

@[expose] public section

set_option maxRecDepth 16384

noncomputable section

open Idealize.ShloMosaic Idealize.ShloMosaic.TcCoe Idealize.SL.Sem

namespace Cert.Band

/-- The scale of the kernel's queries is an eighth of `log₂ e`. -/
theorem qscale_eq : (((Real.log 256)⁻¹ : ℝ) : EReal) = ((1 / 8 : ℝ) : EReal) * lg := by
  rw [← EReal.coe_mul]
  congr 1
  rw [show (256 : ℝ) = 2 ^ 8 by norm_num, Real.log_pow]
  push_cast
  rw [mul_inv]
  norm_num

/-- The word of an eighth. -/
theorem ofBits_eighth : FloatOps.ofBits (F := Ideal) .f32 0x3E000000#32 = ((1 / 8 : ℝ) : EReal) := by
  show Ideal.ofBits .f32 0x3E000000#32 = _
  simp [Ideal.ofBits, Ideal.ieee]
  refine (EReal.coe_mul _ _).symm.trans (congrArg _ ?_)
  norm_num

/-- The factor `lg` distributes over a sum of two reals. -/
theorem add_mul_lg {a b : EReal} : IsReal a → IsReal b → (a + b) * lg = a * lg + b * lg := by
  rintro ⟨x, rfl⟩ ⟨y, rfl⟩
  rw [← EReal.coe_add, ← EReal.coe_mul, ← EReal.coe_mul, ← EReal.coe_mul, ← EReal.coe_add, add_mul]

/-- The factor `lg` distributes over a finite sum of reals. -/
theorem sum_mul_lg {ι : Type} (s : Finset ι) (f : ι → EReal) (h : ∀ i, IsReal (f i)) :
    (∑ i ∈ s, f i) * lg = ∑ i ∈ s, f i * lg := by
  classical
  induction s using Finset.induction_on with
  | empty => simp
  | insert a s ha ih => rw [Finset.sum_insert ha, Finset.sum_insert ha, add_mul_lg (h a) (IsReal.sum s f h), ih]

/-- A sum over a pair's 128 lanes of which one head's 64 are kept is the sum over that head's lanes. -/
theorem sum_lanes (hh : ℕ) (hhh : hh < 2) (a b : Fin 128 → EReal) :
    (∑ e : Fin 128, (if e.val / 64 = hh then a e else 0) * b e) = ∑ e : Fin 64, a ⟨64 * hh + e.val, by omega⟩ * b ⟨64 * hh + e.val, by omega⟩ := by
  symm
  refine Finset.sum_of_injOn (fun e : Fin 64 => (⟨64 * hh + e.val, by omega⟩ : Fin 128)) ?_ ?_ ?_ ?_
  · intro x _ y _ hxy
    have := congrArg Fin.val hxy
    simp only at this
    exact Fin.ext (by omega)
  · intro x _
    simp
  · intro e _ he
    have : ¬ e.val / 64 = hh := by
      intro h
      exact he ⟨⟨e.val % 64, by omega⟩, by simp, Fin.ext (by simp; omega)⟩
    rw [if_neg this, zero_mul]
  · intro e _
    rw [if_pos (by simp; omega)]

end Cert.Band

namespace Cert.KernelIdeal.Val

open Cert.KernelIdeal Cert.Band
open Cert.ReferenceIdeal.Val (proj padded slot score ctx ctxRow relIx)

variable (fm : Vec Ideal S8x1024 .f32) (fq : Vec Ideal S512x1024 .bf16) (fk fv : Vec Ideal S1024x1024 .bf16) (fb : Vec Ideal S8x256x640 .f32)
  (x : Vec Ideal Cert.ReferenceIdeal.S2x8192x1024 .f32) (md : Vec Ideal Cert.ReferenceIdeal.S2x3x1024 .f32) (g : Vec Ideal Cert.ReferenceIdeal.S2x1024 .f32)
  (w : Vec Ideal Cert.ReferenceIdeal.S1024x3072 .f32) (rb : Vec Ideal Cert.ReferenceIdeal.S16x513 .f32)
  (hP : ∀ b s k, IsReal (proj x md g w b s k)) (hrb : ∀ h j, IsReal (rb (ix2 h j)))

include hP in
/-- A padded key or value entry is real when the projected rows are. -/
theorem padded_real (o : ℕ) (ho : o ≤ 2048) (b : Fin 2) (p : Fin 8704) (h : Fin 16) (e : Fin 64) : IsReal (padded x md g w o ho b p h e) := by
  unfold padded
  by_cases hp : 512 ≤ p.val
  · rw [dif_pos hp]; exact hP _ _ _
  · rw [dif_neg hp]; exact IsReal.zero

include hP in
/-- A score without its bias is a real number. -/
theorem dot_real (b : Fin 2) (n : Fin 128) (h : Fin 16) (i : Fin 64) (j : Fin 576) (e : Fin 64) :
    IsReal (proj x md g w b ⟨n.val * 64 + i.val, by omega⟩ ⟨h.val * 64 + e.val, by omega⟩ * (FloatOps.ofBits (F := Ideal) .f32 0x3E000000#32)
      * padded x md g w 1024 (by omega) b (slot n j) h e) := by
  rw [ofBits_eighth]
  exact ((hP _ _ _).mul (IsReal.coe _)).mul (padded_real x md g w hP _ _ _ _ _ _)

include hP hrb in
/-- A visible slot's score is a real number. -/
theorem score_real (b : Fin 2) (n : Fin 128) (h : Fin 16) (i : Fin 64) (j : Fin 576) (hv : 512 ≤ (slot n j).val) :
    IsReal (score x md g w rb b n h i j) := by
  unfold score
  rw [if_pos hv]
  exact (IsReal.sum _ _ fun e => dot_real x md g w hP b n h i j e).add (hrb _ _)

include hP in
/-- The kernel's dot product of a query and a band slot is the reference's times `log₂ e`. -/
theorem lanes_eq (b : Fin 2) (T : ℕ) (hT : T < 16)
    (hq : ∀ (r : Fin 512) (k : Fin 1024), fq (ix2 r k) = proj x md g w b ⟨512 * T + r.val, by omega⟩ ⟨k.val, by omega⟩ * (((Real.log 256)⁻¹ : ℝ) : EReal))
    (hk : ∀ (r : Fin 1024) (k : Fin 1024), fk (ix2 r k) = padded x md g w 1024 (by omega) b ⟨512 * T + r.val, by omega⟩ ⟨k.val / 64, by omega⟩ ⟨k.val % 64, by omega⟩)
    (y0 : Fin 512) (y1 : Fin 1024) (j : Fin 576) (c : Fin 640) (hc : c.val = 64 * (y0.val % 128 / 64) + j.val) :
    (∑ e : Fin 128, (if e.val / 64 = y1.val % 128 / 64 then fq (ix2 y0 ⟨128 * (y1.val / 128) + e.val, by omega⟩) else 0)
      * fk (ix2 ⟨128 * (y0.val / 128) + c.val, by omega⟩ ⟨128 * (y1.val / 128) + e.val, by omega⟩))
      = (∑ e : Fin 64, proj x md g w b ⟨(8 * T + y0.val / 64) * 64 + y0.val % 64, by omega⟩ ⟨y1.val / 64 * 64 + e.val, by omega⟩ * (FloatOps.ofBits (F := Ideal) .f32 0x3E000000#32)
      * padded x md g w 1024 (by omega) b (slot ⟨8 * T + y0.val / 64, by omega⟩ j) ⟨y1.val / 64, by omega⟩ e) * lg := by
  rw [sum_mul_lg _ _ (fun e => dot_real x md g w hP b ⟨8 * T + y0.val / 64, by omega⟩ ⟨y1.val / 64, by omega⟩ ⟨y0.val % 64, by omega⟩ j e)]
  refine (sum_lanes (y1.val % 128 / 64) (by omega) (fun e => fq (ix2 y0 ⟨128 * (y1.val / 128) + e.val, by omega⟩))
    (fun e => fk (ix2 ⟨128 * (y0.val / 128) + c.val, by omega⟩ ⟨128 * (y1.val / 128) + e.val, by omega⟩))).trans ?_
  refine Finset.sum_congr rfl fun e _ => ?_
  rw [hq, hk, qscale_eq, ofBits_eighth]
  have e1 : (⟨512 * T + y0.val, by omega⟩ : Fin 8192) = ⟨(8 * T + y0.val / 64) * 64 + y0.val % 64, by omega⟩ := Fin.ext (by simp only; omega)
  have e2 : (⟨128 * (y1.val / 128) + (64 * (y1.val % 128 / 64) + e.val), by omega⟩ : Fin 3072) = ⟨y1.val / 64 * 64 + e.val, by omega⟩ := Fin.ext (by simp only; omega)
  have e3 : (⟨512 * T + (128 * (y0.val / 128) + c.val), by omega⟩ : Fin 8704) = slot ⟨8 * T + y0.val / 64, by omega⟩ j := Fin.ext (by simp only [slot]; omega)
  have e4 : (⟨(128 * (y1.val / 128) + (64 * (y1.val % 128 / 64) + e.val)) / 64, by omega⟩ : Fin 16) = ⟨y1.val / 64, by omega⟩ := Fin.ext (by simp only; omega)
  have e5 : (⟨(128 * (y1.val / 128) + (64 * (y1.val % 128 / 64) + e.val)) % 64, by omega⟩ : Fin 64) = e := Fin.ext (by simp only; omega)
  simp only [e1, e2, e3, e4, e5]
  rw [← mul_assoc, mul_right_comm]

include hP hrb in
/-- Inside the band the kernel's score is the reference's times `log₂ e`. -/
theorem uval_in (b : Fin 2) (T : ℕ) (hT : T < 16)
    (hq : ∀ (r : Fin 512) (k : Fin 1024), fq (ix2 r k) = proj x md g w b ⟨512 * T + r.val, by omega⟩ ⟨k.val, by omega⟩ * (((Real.log 256)⁻¹ : ℝ) : EReal))
    (hk : ∀ (r : Fin 1024) (k : Fin 1024), fk (ix2 r k) = padded x md g w 1024 (by omega) b ⟨512 * T + r.val, by omega⟩ ⟨k.val / 64, by omega⟩ ⟨k.val % 64, by omega⟩)
    (hm : ∀ k : Fin 1024, fm (ix2 0 k) = if 512 ≤ k.val ∨ 0 < T then (0 : EReal) else ⊥)
    (hb : ∀ (p : Fin 8) (q : Fin 256) (k : Fin 640), fb (ix3 p q k)
          = if 64 * (q.val % 128 / 64) ≤ k.val ∧ k.val < 64 * (q.val % 128 / 64) + 576 then
              (show EReal from rb (ix2 ⟨p.val * 2 + q.val / 128, by omega⟩ ⟨min (q.val % 128 + 768 - k.val) 512, by omega⟩))
            else (⊥ : EReal))
    (y0 : Fin 512) (y1 : Fin 1024) (j : Fin 576) :
    uval fm fq fk fb y0 y1 ⟨64 * (y0.val % 128 / 64) + j.val, by omega⟩
      = score x md g w rb b ⟨8 * T + y0.val / 64, by omega⟩ ⟨y1.val / 64, by omega⟩ ⟨y0.val % 64, by omega⟩ j * lg := by
  unfold uval score
  rw [lanes_eq fq fk x md g w hP b T hT hq hk y0 y1 j ⟨64 * (y0.val % 128 / 64) + j.val, by omega⟩ rfl, hm]
  by_cases hv : 512 ≤ (slot ⟨8 * T + y0.val / 64, by omega⟩ j).val
  · rw [if_pos hv, if_pos (by simp only [slot] at hv ⊢; omega), add_zero,
      add_mul_lg (IsReal.sum _ _ fun e => dot_real x md g w hP b ⟨8 * T + y0.val / 64, by omega⟩ ⟨y1.val / 64, by omega⟩ ⟨y0.val % 64, by omega⟩ j e) (hrb _ _),
      hb, if_pos (by simp only; omega)]
    have e1 : (⟨y1.val / 128 * 2 + (y1.val % 128 / 64 * 128 + y0.val % 128) / 128, by omega⟩ : Fin 16) = ⟨y1.val / 64, by omega⟩ := Fin.ext (by simp only; omega)
    have e2 : (⟨min ((y1.val % 128 / 64 * 128 + y0.val % 128) % 128 + 768 - (64 * (y0.val % 128 / 64) + j.val)) 512, by omega⟩ : Fin 513)
        = relIx ⟨y0.val % 64, by omega⟩ j := Fin.ext (by simp only [relIx]; omega)
    simp only [e1, e2]
  · rw [if_neg hv, if_neg (by simp only [slot] at hv ⊢; omega), bot_mul_lg, EReal.add_bot]

/-- Outside the band the kernel's score is `⊥`. -/
theorem uval_out
    (hb : ∀ (p : Fin 8) (q : Fin 256) (k : Fin 640), fb (ix3 p q k)
          = if 64 * (q.val % 128 / 64) ≤ k.val ∧ k.val < 64 * (q.val % 128 / 64) + 576 then
              (show EReal from rb (ix2 ⟨p.val * 2 + q.val / 128, by omega⟩ ⟨min (q.val % 128 + 768 - k.val) 512, by omega⟩))
            else (⊥ : EReal))
    (y0 : Fin 512) (y1 : Fin 1024) (c : Fin 640) (hc : c.val < 64 * (y0.val % 128 / 64) ∨ 64 * (y0.val % 128 / 64) + 576 ≤ c.val) :
    uval fm fq fk fb y0 y1 c = ⊥ := by
  unfold uval
  rw [hb, if_neg (by simp only; omega), bot_mul_lg, EReal.add_bot, EReal.bot_add]

include hP hrb in
/-- The kernel's context row is the reference's. -/
theorem uctx_eq (b : Fin 2) (T : ℕ) (hT : T < 16)
    (hq : ∀ (r : Fin 512) (k : Fin 1024), fq (ix2 r k) = proj x md g w b ⟨512 * T + r.val, by omega⟩ ⟨k.val, by omega⟩ * (((Real.log 256)⁻¹ : ℝ) : EReal))
    (hk : ∀ (r : Fin 1024) (k : Fin 1024), fk (ix2 r k) = padded x md g w 1024 (by omega) b ⟨512 * T + r.val, by omega⟩ ⟨k.val / 64, by omega⟩ ⟨k.val % 64, by omega⟩)
    (hvl : ∀ (r : Fin 1024) (k : Fin 1024), fv (ix2 r k) = padded x md g w 2048 (by omega) b ⟨512 * T + r.val, by omega⟩ ⟨k.val / 64, by omega⟩ ⟨k.val % 64, by omega⟩)
    (hm : ∀ k : Fin 1024, fm (ix2 0 k) = if 512 ≤ k.val ∨ 0 < T then (0 : EReal) else ⊥)
    (hb : ∀ (p : Fin 8) (q : Fin 256) (k : Fin 640), fb (ix3 p q k)
          = if 64 * (q.val % 128 / 64) ≤ k.val ∧ k.val < 64 * (q.val % 128 / 64) + 576 then
              (show EReal from rb (ix2 ⟨p.val * 2 + q.val / 128, by omega⟩ ⟨min (q.val % 128 + 768 - k.val) 512, by omega⟩))
            else (⊥ : EReal))
    (y0 : Fin 512) (y1 : Fin 1024) :
    uctx fm fq fk fv fb y0 y1 = ctxRow x md g w rb b ⟨512 * T + y0.val, by omega⟩ y1 := by
  have e1 : (⟨(512 * T + y0.val) / 64, by omega⟩ : Fin 128) = ⟨8 * T + y0.val / 64, by omega⟩ := Fin.ext (by simp only; omega)
  have e2 : (⟨(512 * T + y0.val) % 64, by omega⟩ : Fin 64) = ⟨y0.val % 64, by omega⟩ := Fin.ext (by simp only; omega)
  unfold ctxRow ctx Cert.ReferenceIdeal.Val.top
  simp only [e1, e2]
  unfold uctx
  refine softmax_band (64 * (y0.val % 128 / 64)) (by omega) (uval fm fq fk fb y0 y1) (fun c => fv (ix2 ⟨128 * (y0.val / 128) + c.val, by omega⟩ y1))
    (score x md g w rb b ⟨8 * T + y0.val / 64, by omega⟩ ⟨y1.val / 64, by omega⟩ ⟨y0.val % 64, by omega⟩)
    (fun j => padded x md g w 2048 (by omega) b (slot ⟨8 * T + y0.val / 64, by omega⟩ j) ⟨y1.val / 64, by omega⟩ ⟨y1.val % 64, by omega⟩)
    (fun j => uval_in fm fq fk fb x md g w rb hP hrb b T hT hq hk hm hb y0 y1 j)
    (fun c hc => uval_out fm fq fk fb rb hb y0 y1 c hc) (fun j => ?_) ⟨⟨512 + y0.val % 64, by omega⟩, ?_⟩
    (fun j => padded_real x md g w hP _ _ _ _ _ _) (fun j => ?_)
  · by_cases hv : 512 ≤ (slot ⟨8 * T + y0.val / 64, by omega⟩ j).val
    · exact Or.inr (score_real x md g w rb hP hrb _ _ _ _ _ hv)
    · exact Or.inl (by unfold score; rw [if_neg hv])
  · exact score_real x md g w rb hP hrb _ _ _ _ _ (by simp only [slot]; omega)
  · show fv _ = _
    rw [hvl]
    have e3 : (⟨512 * T + (128 * (y0.val / 128) + (64 * (y0.val % 128 / 64) + j.val)), by omega⟩ : Fin 8704) = slot ⟨8 * T + y0.val / 64, by omega⟩ j :=
      Fin.ext (by simp only [slot]; omega)
    simp only [e3]

end Cert.KernelIdeal.Val

end
-- ==== Proof.AttnFin.lean ====
/-
  What the precondition gives: every entry of the input, of the modulation, of the gains, of the projection and of the
  table of biases is a real number, and so is every entry of the projected rows.
-/
module

public import proofs.«01_k».proof.Pre_finite
public import proofs.«01_k».proof.Proof.AttnMath
public import proofs.«01_k».proof.Proof.AttnRef
public import Idealize.ShloMosaic.Lib.ReduceAll

@[expose] public section

set_option maxRecDepth 16384

noncomputable section

open Idealize.ShloMosaic Idealize.ShloMosaic.TcCoe Idealize.SL.Sem

namespace Cert.Band

/-- The word of positive infinity. -/
theorem ofBits_top : Ideal.ofBits .f32 0x7F800000#32 = (⊤ : EReal) := by
  simp [Ideal.ofBits, Ideal.ieee]

/-- A number whose absolute value is below `⊤` is real. -/
theorem real_of_cmp {z : EReal} (h : Ideal.cmp .olt (max z (-z)) (Ideal.ofBits .f32 0x7F800000#32) = 1#1) : IsReal z := by
  rw [ofBits_top] at h
  induction z with
  | bot => simp [Ideal.cmp] at h
  | top => simp [Ideal.cmp] at h
  | coe r => exact ⟨r, rfl⟩

end Cert.Band

namespace Cert.Rows

open Cert.Band

/-- The length of a row is 1024. -/
theorem rowLen_eq : rowLen = ((1024 : ℝ) : EReal) := by
  simp [rowLen, Ideal.ofBits, Ideal.ieee]
  refine (EReal.coe_mul _ _).symm.trans (congrArg _ ?_)
  norm_num

/-- The small number under the root is a positive real. -/
theorem eps_eq : ∃ r : ℝ, 0 < r ∧ eps = (r : EReal) := by
  refine ⟨(8388608 + 407485) * 2⁻¹ ^ 43, by positivity, ?_⟩
  simp [eps, Ideal.ofBits, Ideal.ieee]
  refine (EReal.coe_mul _ _).symm.trans (congrArg _ ?_)
  norm_num

/-- The scale of a row of real numbers is a real number. -/
theorem rscale_real (x : Fin 1024 → EReal) (hx : ∀ k, IsReal (x k)) : IsReal (rscale x) := by
  choose r hr using hx
  obtain ⟨e, he, hee⟩ := eps_eq
  have hs : (∑ k, x k * x k) = ((∑ k, r k * r k : ℝ) : EReal) := by
    rw [coe_sum]
    refine Finset.sum_congr rfl fun k _ => ?_
    rw [hr k, EReal.coe_mul]
  unfold rscale
  rw [hs, rowLen_eq, hee, Ideal.div_coe (by norm_num), ← EReal.coe_mul, ← EReal.coe_add, Ideal.rsqrt_coe]
  have h0 : 0 ≤ ∑ k, r k * r k := Finset.sum_nonneg fun k _ => mul_self_nonneg _
  have h1 : 0 < (∑ k, r k * r k) * (1 / 1024) + e := by positivity
  rw [if_neg (not_lt.mpr h1.le), if_neg h1.ne']
  exact ⟨_, rfl⟩

/-- The normalised row of real numbers is real. -/
theorem pre_real (x gain scale shift : Fin 1024 → EReal) (hx : ∀ k, IsReal (x k)) (hg : ∀ k, IsReal (gain k))
    (hsc : ∀ k, IsReal (scale k)) (hsh : ∀ k, IsReal (shift k)) (j : Fin 1024) : IsReal (pre x gain scale shift j) :=
  ((((hx j).mul (rscale_real x hx)).mul (hg j)).mul (IsReal.one.add (hsc j))).add (hsh j)

end Cert.Rows

namespace Cert.Proof.AttnFin

open Cert.Band

/-- The shape relations the precondition's operations take. -/
instance facts : Cert.Pre_finite.Facts where
  bcast_S_S2x8192x1024 := by decide
  reducesTo_S2x8192x1024_S_d0_1_2 := by decide
  h_S_ := by decide
  bcast_S_S2x3x1024 := by decide
  reducesTo_S2x3x1024_S_d0_1_2 := by decide
  bcast_S_S2x1024 := by decide
  reducesTo_S2x1024_S_d0_1 := by decide
  bcast_S_S1024x3072 := by decide
  reducesTo_S1024x3072_S_d0_1 := by decide
  bcast_S_S16x513 := by decide
  reducesTo_S16x513_S_d0_1 := by decide

variable (x : Vec Ideal Cert.Pre_finite.S2x8192x1024 .f32) (md : Vec Ideal Cert.Pre_finite.S2x3x1024 .f32) (g : Vec Ideal Cert.Pre_finite.S2x1024 .f32)
  (w : Vec Ideal Cert.Pre_finite.S1024x3072 .f32) (rb : Vec Ideal Cert.Pre_finite.S16x513 .f32) (w' : Vec Ideal Cert.Pre_finite.S1024x1024 .f32)

/-- A conjunction of two bits is one only when both are. -/
theorem and_one {a b : BitVec 1} (h : IntOp.andi a b = 1#1) : a = 1#1 ∧ b = 1#1 := by
  revert a b; decide

/-- A scalar's index is unique. -/
instance : Subsingleton Cert.Pre_finite.S_.Idx := ⟨fun a b => funext fun i => i.elim0⟩

/-- The precondition says that every entry of the five arrays it reads is a real number. -/
theorem entries (h : Cert.Pre_finite.fn (F := Ideal) x md g w rb w' = fun _ => 1#1) :
    (∀ i, IsReal (x i)) ∧ (∀ i, IsReal (md i)) ∧ (∀ i, IsReal (g i)) ∧ (∀ i, IsReal (w i)) ∧ (∀ i, IsReal (rb i)) := by
  have h0 := congrFun h (fun i => i.elim0)
  unfold Cert.Pre_finite.fn Cert.Pre_finite.fn_part1 at h0
  obtain ⟨h1, e5⟩ := and_one h0
  obtain ⟨h2, e4⟩ := and_one h1
  obtain ⟨h3, e3⟩ := and_one h2
  obtain ⟨e1, e2⟩ := and_one h3
  exact ⟨fun i => real_of_cmp (Host.reduce_andi_all _ _ _ _ _ e1 i), fun i => real_of_cmp (Host.reduce_andi_all _ _ _ _ _ e2 i),
    fun i => real_of_cmp (Host.reduce_andi_all _ _ _ _ _ e3 i), fun i => real_of_cmp (Host.reduce_andi_all _ _ _ _ _ e4 i),
    fun i => real_of_cmp (Host.reduce_andi_all _ _ _ _ _ e5 i)⟩

/-- The projected rows are real. -/
theorem proj_real (h : Cert.Pre_finite.fn (F := Ideal) x md g w rb w' = fun _ => 1#1) (b : Fin 2) (s : Fin 8192) (k : Fin 3072) :
    IsReal (Cert.ReferenceIdeal.Val.proj x md g w b s k) := by
  obtain ⟨hx, hmd, hg, hw, _⟩ := entries x md g w rb w' h
  exact IsReal.sum _ _ fun i => (Cert.Rows.pre_real _ _ _ _ (fun k => hx _) (fun k => hg _) (fun k => hmd _) (fun k => hmd _) i).mul (hw _)

end Cert.Proof.AttnFin

end
-- ==== Proof.AttnOut.lean ====
/-
  The attention call over exact arithmetic: the rows of keys and values a point hands to the next, the tile a point stores,
  the array the run leaves, and that the reference's lines leave the same.
-/
module

public import proofs.«01_k».proof.Proof.AttnProj
public import proofs.«01_k».proof.Proof.AttnLoop
public import proofs.«01_k».proof.Proof.AttnComb
public import proofs.«01_k».proof.Proof.AttnFin
public import proofs.«01_k».proof.Defs
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Attn Cert.Rows

variable (m : (ℓ : Loc nD τ sig) → Buf (Elt Ideal) ℓ) (ρ : Dev nD → PrngReg)

/-- A point's own keys. -/
abbrev keys (c : Dev nD) (t : Fin cfg0.N) := k0_pay29 (F := Ideal) (tSh m c t) (tSc m c t) (tNm m c t) (iblk m c 3 t)
/-- A point's own values. -/
abbrev vals (c : Dev nD) (t : Fin cfg0.N) := k0_pay30 (F := Ideal) (tSh m c t) (tSc m c t) (tNm m c t) (iblk m c 3 t)

/-- The key rows a point hands to the next are its own tile's. -/
theorem carriedK (c : Dev nD) (t : Fin cfg0.N) (r : Fin 1024) (hr : r.val < 512) (j : Fin 1024) :
    (outsAt0 m c t.val t.isLt).2.1 (ix2 r j) = keys m c t (ix2 ⟨r.val, hr⟩ j) := by
  by_cases h : t.val % 16 = 0
  · rw [outsAt0_A m c t h]
    dsimp only
    frame_out
    rw [Pieces.canon_hit _ _ _ _ (ix2 (⟨r.val, hr⟩ : Fin 512) j) (by intro a; fin_cases a <;> simp)]
    pointwise [k0_pay2]
    rw [Pieces.readCov_unit _ _ _ _ (ix2 (⟨512 + r.val, by omega⟩ : Fin 1024) j) (by intro a; fin_cases a <;> simp),
      Pieces.canon_hit _ _ _ _ (ix2 (⟨r.val, hr⟩ : Fin 512) j) (by intro a; fin_cases a <;> simp)]
    rfl
  · rw [outsAt0_B m c t h]
    dsimp only
    frame_out
    rw [Pieces.canon_hit _ _ _ _ (ix2 (⟨r.val, hr⟩ : Fin 512) j) (by intro a; fin_cases a <;> simp)]
    pointwise [k0_pay2]
    rw [Pieces.readCov_unit _ _ _ _ (ix2 (⟨512 + r.val, by omega⟩ : Fin 1024) j) (by intro a; fin_cases a <;> simp),
      Pieces.canon_hit _ _ _ _ (ix2 (⟨r.val, hr⟩ : Fin 512) j) (by intro a; fin_cases a <;> simp)]
    rfl

/-- The value rows a point hands to the next are its own tile's. -/
theorem carriedV (c : Dev nD) (t : Fin cfg0.N) (r : Fin 1024) (hr : r.val < 512) (j : Fin 1024) :
    (outsAt0 m c t.val t.isLt).2.2 (ix2 r j) = vals m c t (ix2 ⟨r.val, hr⟩ j) := by
  by_cases h : t.val % 16 = 0
  · rw [outsAt0_A m c t h]
    dsimp only
    frame_out
    rw [Pieces.canon_hit _ _ _ _ (ix2 (⟨r.val, hr⟩ : Fin 512) j) (by intro a; fin_cases a <;> simp)]
    pointwise [k0_pay3]
    rw [Pieces.readCov_unit _ _ _ _ (ix2 (⟨512 + r.val, by omega⟩ : Fin 1024) j) (by intro a; fin_cases a <;> simp),
      Pieces.canon_hit _ _ _ _ (ix2 (⟨r.val, hr⟩ : Fin 512) j) (by intro a; fin_cases a <;> simp)]
    rfl
  · rw [outsAt0_B m c t h]
    dsimp only
    frame_out
    rw [Pieces.canon_hit _ _ _ _ (ix2 (⟨r.val, hr⟩ : Fin 512) j) (by intro a; fin_cases a <;> simp)]
    pointwise [k0_pay3]
    rw [Pieces.readCov_unit _ _ _ _ (ix2 (⟨512 + r.val, by omega⟩ : Fin 1024) j) (by intro a; fin_cases a <;> simp),
      Pieces.canon_hit _ _ _ _ (ix2 (⟨r.val, hr⟩ : Fin 512) j) (by intro a; fin_cases a <;> simp)]
    rfl

/-- The key or value rows of a point's window, `o` the first column of the projection. -/
abbrev win (o : ℕ) (ho : o ≤ 2048) (c : Dev nD) (t : Fin cfg0.N) (r : Fin 1024) (k : Fin 1024) : EReal :=
  Cert.ReferenceIdeal.Val.padded (m ((c.tc : Thread nD τ).loc main_arg0)) (m ((c.tc : Thread nD τ).loc main_arg1))
    (m ((c.tc : Thread nD τ).loc main_arg2)) (m ((c.tc : Thread nD τ).loc main_arg3)) o ho (bat t)
    ⟨512 * (grid0.coords t 1).val + r.val, by have := (grid0.coords t 1).isLt; simp at this; omega⟩ ⟨k.val / 64, by omega⟩ ⟨k.val % 64, by omega⟩

/-- A window row of the point's own tile. -/
theorem win_own (o : ℕ) (ho : o ≤ 2048) (c : Dev nD) (t : Fin cfg0.N) (r : Fin 1024) (k : Fin 1024) (hr : 512 ≤ r.val) :
    win m o ho c t r k = P m c (bat t) (pos t ⟨r.val - 512, by omega⟩) ⟨o + k.val, by omega⟩ := by
  unfold win Cert.ReferenceIdeal.Val.padded P
  rw [dif_pos (by show 512 ≤ 512 * _ + r.val; omega)]
  refine congrArg₂ (fun s q => Cert.ReferenceIdeal.Val.proj _ _ _ _ (bat t) s q) (Fin.ext ?_) (Fin.ext ?_)
  · show 512 * _ + r.val - 512 = 512 * _ + (r.val - 512)
    omega
  · show o + (k.val / 64 * 64 + k.val % 64) = o + k.val
    omega

/-- A window row ahead of the first position. -/
theorem win_zero (o : ℕ) (ho : o ≤ 2048) (c : Dev nD) (t : Fin cfg0.N) (r : Fin 1024) (k : Fin 1024) (h : t.val % 16 = 0) (hr : r.val < 512) :
    win m o ho c t r k = 0 := by
  unfold win Cert.ReferenceIdeal.Val.padded
  have := (coords t).2
  rw [dif_neg (by show ¬ 512 ≤ 512 * _ + r.val; omega)]

/-- A window row of the tile before. -/
theorem win_prev (o : ℕ) (ho : o ≤ 2048) (c : Dev nD) (t t' : Fin cfg0.N) (r : Fin 1024) (k : Fin 1024) (ht : t'.val + 1 = t.val)
    (h : ¬ t.val % 16 = 0) (hr : r.val < 512) :
    win m o ho c t r k = P m c (bat t') (pos t' ⟨r.val, hr⟩) ⟨o + k.val, by omega⟩ := by
  have h1 := (coords t).2
  have h2 := (coords t').2
  have h3 := (coords t).1
  have h4 := (coords t').1
  have hc : bat t = bat t' := Fin.ext (by show (grid0.coords t 0).val = (grid0.coords t' 0).val; omega)
  unfold win Cert.ReferenceIdeal.Val.padded P
  rw [dif_pos (by show 512 ≤ 512 * _ + r.val; omega), hc]
  refine congrArg₂ (fun s q => Cert.ReferenceIdeal.Val.proj _ _ _ _ (bat t') s q) (Fin.ext ?_) (Fin.ext ?_)
  · show 512 * _ + r.val - 512 = 512 * _ + r.val
    omega
  · show o + (k.val / 64 * 64 + k.val % 64) = o + k.val
    omega

/-- At a batch's first point the keys read are the window's. -/
theorem readKA (c : Dev nD) (t : Fin cfg0.N) (h : t.val % 16 = 0) (r : Fin 1024) (k : Fin 1024) :
    (View.whole cc0_scratch1).read (Elt Ideal) ((View.whole cc0_scratch1).writes (Elt Ideal) (View.whole cc0_scratch1).junk
      [⟨Rect.unit ![512, 0] ![512, 1024] inb_S1024x1024_S512x1024_512_0, keys m c t⟩,
        ⟨Rect.unit ![0, 0] ![512, 1024] inb_S1024x1024_S512x1024_0_0, k0_pay20 (F := Ideal)⟩]) (ix2 r k)
      = win m 1024 (by omega) c t r k := by
  rw [View.read_writes_junk_eq_canon]
  by_cases hr : 512 ≤ r.val
  · rw [win_own m 1024 _ c t r k hr, ← tileK m c t ⟨r.val - 512, by omega⟩ k,
      Pieces.canon_hit _ _ _ _ (ix2 (⟨r.val - 512, by omega⟩ : Fin 512) k) (by intro a; fin_cases a <;> simp; omega)]
  · rw [win_zero m 1024 _ c t r k h (by omega), Pieces.canon_miss _ _ _ _ 0 (by simp; omega),
      Pieces.canon_hit _ _ _ _ (ix2 (⟨r.val, by omega⟩ : Fin 512) k) (by intro a; fin_cases a <;> simp)]
    pointwise [k0_pay20]

/-- At a later point the keys read are the window's, the first half being what the point before left. -/
theorem readKB (c : Dev nD) (t : Fin cfg0.N) (h : ¬ t.val % 16 = 0) (ht : t.val - 1 < cfg0.N) (hw : (Memref.whole cc0_scratch1).IsWhole)
    (r : Fin 1024) (k : Fin 1024) :
    (View.whole cc0_scratch1).read (Elt Ideal) ((View.whole cc0_scratch1).writes (Elt Ideal) (hw.unread (outsAt0 m c (t.val - 1) ht).2.1)
      [⟨Rect.unit ![512, 0] ![512, 1024] inb_S1024x1024_S512x1024_512_0, keys m c t⟩]) (ix2 r k)
      = win m 1024 (by omega) c t r k := by
  by_cases hr : 512 ≤ r.val
  · rw [win_own m 1024 _ c t r k hr, ← tileK m c t ⟨r.val - 512, by omega⟩ k,
      View.read_writes_cons_unit_of_mem _ _ _ _ _ _ (ix2 (⟨r.val - 512, by omega⟩ : Fin 512) k) rfl (by intro a; fin_cases a <;> simp; omega)]
  · rw [win_prev m 1024 _ c t ⟨t.val - 1, ht⟩ r k (by show t.val - 1 + 1 = _; omega) h (by omega), ← tileK,
      View.read_writes_cons_unit_of_not_mem _ _ _ _ _ _ rfl 0 (by simp; omega)]
    refine (congrFun (hw.read_unread _) _).trans ?_
    exact carriedK m c ⟨t.val - 1, ht⟩ r (by omega) k

/-- At a batch's first point the values read are the window's. -/
theorem readVA (c : Dev nD) (t : Fin cfg0.N) (h : t.val % 16 = 0) (r : Fin 1024) (k : Fin 1024) :
    (View.whole cc0_scratch2).read (Elt Ideal) ((View.whole cc0_scratch2).writes (Elt Ideal) (View.whole cc0_scratch2).junk
      [⟨Rect.unit ![512, 0] ![512, 1024] inb_S1024x1024_S512x1024_512_0, vals m c t⟩,
        ⟨Rect.unit ![0, 0] ![512, 1024] inb_S1024x1024_S512x1024_0_0, k0_pay21 (F := Ideal)⟩]) (ix2 r k)
      = win m 2048 (by omega) c t r k := by
  rw [View.read_writes_junk_eq_canon]
  by_cases hr : 512 ≤ r.val
  · rw [win_own m 2048 _ c t r k hr, ← tileV m c t ⟨r.val - 512, by omega⟩ k,
      Pieces.canon_hit _ _ _ _ (ix2 (⟨r.val - 512, by omega⟩ : Fin 512) k) (by intro a; fin_cases a <;> simp; omega)]
  · rw [win_zero m 2048 _ c t r k h (by omega), Pieces.canon_miss _ _ _ _ 0 (by simp; omega),
      Pieces.canon_hit _ _ _ _ (ix2 (⟨r.val, by omega⟩ : Fin 512) k) (by intro a; fin_cases a <;> simp)]
    pointwise [k0_pay21]

/-- At a later point the values read are the window's, the first half being what the point before left. -/
theorem readVB (c : Dev nD) (t : Fin cfg0.N) (h : ¬ t.val % 16 = 0) (ht : t.val - 1 < cfg0.N) (hw : (Memref.whole cc0_scratch2).IsWhole)
    (r : Fin 1024) (k : Fin 1024) :
    (View.whole cc0_scratch2).read (Elt Ideal) ((View.whole cc0_scratch2).writes (Elt Ideal) (hw.unread (outsAt0 m c (t.val - 1) ht).2.2)
      [⟨Rect.unit ![512, 0] ![512, 1024] inb_S1024x1024_S512x1024_512_0, vals m c t⟩]) (ix2 r k)
      = win m 2048 (by omega) c t r k := by
  by_cases hr : 512 ≤ r.val
  · rw [win_own m 2048 _ c t r k hr, ← tileV m c t ⟨r.val - 512, by omega⟩ k,
      View.read_writes_cons_unit_of_mem _ _ _ _ _ _ (ix2 (⟨r.val - 512, by omega⟩ : Fin 512) k) rfl (by intro a; fin_cases a <;> simp; omega)]
  · rw [win_prev m 2048 _ c t ⟨t.val - 1, ht⟩ r k (by show t.val - 1 + 1 = _; omega) h (by omega), ← tileV,
      View.read_writes_cons_unit_of_not_mem _ _ _ _ _ _ rfl 0 (by simp; omega)]
    refine (congrFun (hw.read_unread _) _).trans ?_
    exact carriedV m c ⟨t.val - 1, ht⟩ r (by omega) k

/-- A point's mask row. -/
theorem readM (i : grid0.Coords) (k : Fin 1024) :
    (View.whole cc0_scratch4).read (Elt Ideal) ((View.whole cc0_scratch4).writes (Elt Ideal) (View.whole cc0_scratch4).junk
      [⟨Rect.unit ![0, 0] ![8, 1024] inb_S8x1024_S8x1024_0_0, k0_pay22 (F := Ideal) i⟩]) (ix2 0 k)
      = if 512 ≤ k.val ∨ 0 < (i 1).val then (0 : EReal) else ⊥ := by
  rw [View.read_writes_junk_eq_canon, Pieces.canon_hit _ _ _ _ (ix2 (0 : Fin 8) k) (by intro a; fin_cases a <;> simp), pay22_apply]

/-- A point's scaled queries. -/
theorem readQ (c : Dev nD) (t : Fin cfg0.N) (r : Fin 512) (k : Fin 1024) :
    (View.whole cc0_scratch0).read (Elt Ideal) ((View.whole cc0_scratch0).writes (Elt Ideal) (View.whole cc0_scratch0).junk
      [⟨Rect.unit ![0, 0] ![512, 1024] inb_S512x1024_S512x1024_0_0,
        k0_pay28 (F := Ideal) (tSh m c t) (tSc m c t) (tNm m c t) (iblk m c 3 t)⟩]) (ix2 r k)
      = P m c (bat t) (pos t r) ⟨k.val, by omega⟩ * (((Real.log 256)⁻¹ : ℝ) : EReal) := by
  rw [View.read_writes_junk_eq_canon, Pieces.canon_hit _ _ _ _ (ix2 (⟨r.val, r.isLt⟩ : Fin 512) k) (by intro a; fin_cases a <;> simp)]
  exact tileQ m c t r k

/-- A point's table of biases is the whole table. -/
theorem readB (c : Dev nD) (t : Fin cfg0.N) (p : Fin 8) (q : Fin 256) (k : Fin 640) :
    (iblk m c 4 t : Vec Ideal S8x256x640 .f32) (ix3 p q k)
      = if 64 * (q.val % 128 / 64) ≤ k.val ∧ k.val < 64 * (q.val % 128 / 64) + 576 then show EReal from
          (m ((c.tc : Thread nD τ).loc main_arg4) : Vec Ideal S16x513 .f32)
            (ix2 ⟨p.val * 2 + q.val / 128, by omega⟩ ⟨min (q.val % 128 + 768 - k.val) 512, by omega⟩)
        else (⊥ : EReal) := by
  rw [← bias_entry m c p q k]
  blk_point [iblk, idx t]

/-- The precondition at device `c`. -/
abbrev Fin0 (c : Dev nD) : Prop := Cert.Pre_finite.fn (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) = fun _ => 1#1

/-- The result at batch `b`, position `s`, column `j` of device `c`, from its argument arrays. -/
def R (c : Dev nD) (b : Fin 2) (s : Fin 8192) (j : Fin 1024) : EReal :=
  Cert.ReferenceIdeal.Val.attn (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) b s j

/-- The whole result array of device `c`, from its argument arrays. -/
def G (c : Dev nD) : Buf (Elt Ideal) ((c.tc : Thread nD τ).loc main_v35) := fun i => R m c (i 0) (i 1) (i 2)

/-- The context a point's loop leaves is the reference's, given what the scratches hold. -/
theorem ctx_of (c : Dev nD) (hf : Fin0 m c) (t : Fin cfg0.N) (fm : Vec Ideal S8x1024 .f32) (fq : Vec Ideal S512x1024 .bf16)
    (fk fv : Vec Ideal S1024x1024 .bf16) (fb : Vec Ideal S8x256x640 .f32)
    (hm : ∀ k, fm (ix2 0 k) = if 512 ≤ k.val ∨ 0 < (grid0.coords t 1).val then (0 : EReal) else ⊥)
    (hq : ∀ r k, fq (ix2 r k) = P m c (bat t) (pos t r) ⟨k.val, by omega⟩ * (((Real.log 256)⁻¹ : ℝ) : EReal))
    (hk : ∀ r k, fk (ix2 r k) = win m 1024 (by omega) c t r k) (hv : ∀ r k, fv (ix2 r k) = win m 2048 (by omega) c t r k)
    (hb : ∀ p q k, fb (ix3 p q k) = (iblk m c 4 t : Vec Ideal S8x256x640 .f32) (ix3 p q k)) (r : Fin 512) (k : Fin 1024) :
    uctx fm fq fk fv fb r k = Cert.ReferenceIdeal.Val.ctxRow (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (bat t) (pos t r) k :=
  uctx_eq fm fq fk fv fb _ _ _ _ _ (Cert.Proof.AttnFin.proj_real _ _ _ _ _ _ hf)
    (fun h j => (Cert.Proof.AttnFin.entries _ _ _ _ _ _ hf).2.2.2.2 _) (bat t) (grid0.coords t 1).val (grid0.coords t 1).isLt
    hq hk hv hm (fun p q k => (hb p q k).trans (readB m c t p q k)) r k

/-- The tile a point stores. -/
theorem out (c : Dev nD) (hf : Fin0 m c) (t : Fin cfg0.N) (r : Fin 512) (j : Fin 1024) :
    (outsAt0 m c t.val t.isLt).1 (ix3 0 r j) = R m c (bat t) (pos t r) j := by
  unfold R Cert.ReferenceIdeal.Val.attn
  by_cases h : t.val % 16 = 0
  · rw [outsAt0_A m c t h]
    dsimp only
    frame_out
    refine pay1_of _ _ _ _ _ r j (fun k => ?_) (fun k => (loop_canon _ _ _ _ _ _ _ _ _ _ _ _ _ _ _ _ _ _ _ _ _ _ _ _ _ _ _ _ _ _ _ _ _ _ _ _ _).trans
      (ctx_of m c hf t _ _ _ _ _ (fun k => readM _ k) (fun r k => readQ m c t r k) (fun r k => readKA m c t h r k) (fun r k => readVA m c t h r k)
        (fun p q k => congrFun ((hs0_4 t).read_unread _) _) r k)) (fun i k => ?_) (fun k => ?_) (fun k => ?_)
    all_goals blk_point [iblk, V, idx t]
  · rw [outsAt0_B m c t h]
    dsimp only
    frame_out
    refine pay1_of _ _ _ _ _ r j (fun k => ?_) (fun k => (loop_canon _ _ _ _ _ _ _ _ _ _ _ _ _ _ _ _ _ _ _ _ _ _ _ _ _ _ _ _ _ _ _ _ _ _ _ _ _).trans
      (ctx_of m c hf t _ _ _ _ _ (fun k => readM _ k) (fun r k => readQ m c t r k) (fun r k => readKB m c t h _ _ r k) (fun r k => readVB m c t h _ _ r k)
        (fun p q k => congrFun ((hs0_4 t).read_unread _) _) r k)) (fun i k => ?_) (fun k => ?_) (fun k => ?_)
    all_goals blk_point [iblk, V, idx t]

end Cert.KernelIdeal.Val

end
-- ==== Proof.Attn.lean ====
/-
  The attention call over exact arithmetic: the array the run leaves, and that the reference's lines leave the same.
-/
module

public import proofs.«01_k».proof.Proof.AttnOut

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Attn Cert.Rows

variable (m : (ℓ : Loc nD τ sig) → Buf (Elt Ideal) ℓ) (ρ : Dev nD → PrngReg)

/-- The result array after the run. -/
theorem final (c : Dev nD) (hp : Fin0 m c) : (dats m 0 c).arrAt 6 cfg0.N = G m c := by
  refine (dats m 0 c).arrAt_eq_of_covers 6 _ (by decide +kernel) fun t hf y => ?_
  blk_simp
  rw [after0_6]
  idx_vars y
  obtain rfl : y0 = (0 : Fin 1) := Subsingleton.elim _ _
  refine (out m c hp t y1 y2).trans ?_
  show G m c (ix3 (bat t) (pos t y1) y2) = _
  generalize G m c = g
  blk_point [idx t]

/-- A run of the kernel leaves the result array at `G`, the precondition granted. -/
theorem result (hp : ∀ c, Fin0 m c) : θ_run defs (onTc (τ := τ) (main (F := Ideal))) ⟨m, fun _ => 0, ρ⟩ fun r => ∀ c : Dev nD,
      r.2.mem ((c.tc : Thread nD τ).loc main_v35) = G m c := by
  run_from Cert.KernelIdeal.Attn.run_main m ρ
  exact final m c (hp c)

/-- What a run of the kernel leaves, the precondition granted: the result array at `G`, the arguments as they were. -/
theorem run (hp : ∀ c, Fin0 m c) : θ_run defs (onTc (τ := τ) (main (F := Ideal))) ⟨m, fun _ => 0, ρ⟩ fun r => ∀ c : Dev nD,
      r.2.mem ((c.tc : Thread nD τ).loc main_v35) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h.1 c, h.2 c⟩) (θ_run_and (result m ρ hp) (Cert.KernelIdeal.Attn.unchanged m ρ))

end Cert.KernelIdeal.Val

namespace Cert.Proof.AttnClaims

/-- On finite inputs the attention kernel and the reference's lines leave the same result array. -/
theorem algebraic : Cert.algebraic_KernelIdeal_ReferenceIdeal_pre_finite := by
  intro m ρ m' ρ' hp hag
  refine ⟨fun c => Cert.KernelIdeal.Val.G m c, Cert.KernelIdeal.Val.run m ρ hp, ?_⟩
  refine (θ_run Cert.ReferenceIdeal.defs _ _).mono (fun _ h c => ⟨(h c).1.trans ?_, (h c).2⟩) (Cert.ReferenceIdeal.Value.run (F := Ideal) m' ρ')
  have e (b) : StableHlo.launchContents m' c (Proc.devRef .tc b) = m' ((c.tc : Thread _ _).loc b) := rfl
  rw [Cert.ReferenceIdeal.Read.val_main_v132_eq, e, e, e, e, e, e, (hag c).1, (hag c).2.1, (hag c).2.2.1, (hag c).2.2.2.1,
    (hag c).2.2.2.2.1, (hag c).2.2.2.2.2]
  funext i
  idx_vars i
  exact Cert.ReferenceIdeal.Val.v132_apply _ _ _ _ _ _ _ _ _

end Cert.Proof.AttnClaims
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.IFrame
public import proofs.«01_k».proof.Proof.Gen.ReferenceIdeal
public import proofs.«01_k».proof.Proof.Gen.KFfn
public import proofs.«01_k».proof.Proof.Gen.KFfn.Skeleton
public import proofs.«01_k».proof.Proof.Gen.KFfn.Launch
public import proofs.«01_k».proof.Proof.Gen.KFfn.Points
public import proofs.«01_k».proof.Proof.Gen.KFfn.Frame
public import proofs.«01_k».proof.Proof.Gen.KFfnIdeal
public import proofs.«01_k».proof.Proof.Gen.KFfnIdeal.Skeleton
public import proofs.«01_k».proof.Proof.Gen.KFfnIdeal.Launch
public import proofs.«01_k».proof.Proof.Gen.KFfnIdeal.Points
public import proofs.«01_k».proof.Proof.Gen.KFfnIdeal.Frame
public import proofs.«01_k».proof.Proof.Gen.RFfnIdeal
public import proofs.«01_k».proof.Proof.Gen.KConv
public import proofs.«01_k».proof.Proof.Gen.KConv.Skeleton
public import proofs.«01_k».proof.Proof.Gen.KConv.Launch
public import proofs.«01_k».proof.Proof.Gen.KConv.Points
public import proofs.«01_k».proof.Proof.Gen.KConv.Frame
public import proofs.«01_k».proof.Proof.Gen.KConvIdeal
public import proofs.«01_k».proof.Proof.Gen.KConvIdeal.Skeleton
public import proofs.«01_k».proof.Proof.Gen.KConvIdeal.Launch
public import proofs.«01_k».proof.Proof.Gen.KConvIdeal.Points
public import proofs.«01_k».proof.Proof.Gen.KConvIdeal.Frame
public import proofs.«01_k».proof.Proof.Gen.RConvIdeal
public import proofs.«01_k».proof.Proof.Gen.RFfnIdeal.Run
public import proofs.«01_k».proof.Proof.Gen.RFfnIdeal.Read
public import proofs.«01_k».proof.Proof.Gen.RConvIdeal.Run
public import proofs.«01_k».proof.Proof.Gen.RConvIdeal.Read
public import proofs.«01_k».proof.Proof.Gen.ReferenceIdeal.Run
public import proofs.«01_k».proof.Proof.Gen.ReferenceIdeal.Read
public import proofs.«01_k».proof.Proof.Ffn
public import proofs.«01_k».proof.Proof.Conv
public import proofs.«01_k».proof.Proof.Attn
public import Idealize.ShloMosaic.Lib.Quiescent
public import Idealize.ShloMosaic.Adequacy
public import Idealize.ShloMosaic.Init

@[expose] public section

noncomputable section

namespace Cert.Proof

open Idealize.ShloMosaic Idealize.SL.Sem

/-- The reference of the attention sublayer runs, leaves its arguments and ends with its semaphores at zero. -/
theorem frame_ReferenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference of the feed-forward sublayer runs, leaves its arguments and ends with its semaphores at zero. -/
theorem frame_RFfnIdeal : Cert.quiescent_RFfnIdeal := fun m ρ _ =>
  (θ_run Cert.RFfnIdeal.defs _ _).mono
    (fun r h => ⟨fun c => (h c).2, Idealize.ShloMosaic.sem_eq_zero_of_no_sems (by decide) r.2⟩)
    (Cert.RFfnIdeal.Value.run (F := Ideal) m ρ)

/-- The reference of the convolution sublayer runs, leaves its arguments and ends with its semaphores at zero. -/
theorem frame_RConvIdeal : Cert.quiescent_RConvIdeal := fun m ρ _ =>
  (θ_run Cert.RConvIdeal.defs _ _).mono
    (fun r h => ⟨fun c => (h c).2, Idealize.ShloMosaic.sem_eq_zero_of_no_sems (by decide) r.2⟩)
    (Cert.RConvIdeal.Value.run (F := Ideal) m ρ)

/-- The three named constants of the attention kernel are the literals they replace. -/
theorem preserves_attention : Cert.preserves_Kernel_KernelIdeal :=
  ⟨IdealRules.named_const.statement Cert.KernelIdeal.κ "mask" .f32 0xF149F2CA#32 ⊥ rfl,
    IdealRules.named_const.statement Cert.KernelIdeal.κ "qscale" .f32 0x3E38AA3B#32 (((Real.log 256)⁻¹ : ℝ) : EReal) rfl,
    IdealRules.named_const.statement Cert.KernelIdeal.κ "log2e" .f32 0x3FB8AA3B#32 (((Real.log 2)⁻¹ : ℝ) : EReal) rfl⟩

/-- Everything the certificate claims. -/
theorem claim : Cert.Claim :=
  ⟨Cert.Kernel.Gen.facts, Cert.KernelIdeal.Gen.facts, Cert.ReferenceIdeal.Gen.facts, Cert.KFfn.Gen.facts,
    Cert.KFfnIdeal.Gen.facts, Cert.RFfnIdeal.Gen.facts, Cert.KConv.Gen.facts, Cert.KConvIdeal.Gen.facts,
    Cert.RConvIdeal.Gen.facts, AttnFin.facts,
    fun m ρ _ => Cert.Kernel.Attn.frame m ρ, fun m ρ _ => Cert.KernelIdeal.Attn.frame m ρ,
    fun m ρ _ => Cert.KernelIdeal.Attn.frame m ρ, frame_ReferenceIdeal, fun m ρ _ => frame_ReferenceIdeal m ρ trivial,
    fun m ρ _ => Cert.KFfn.Gen.frame m ρ, fun m ρ _ => Cert.KFfnIdeal.Gen.frame m ρ, frame_RFfnIdeal,
    fun m ρ _ => Cert.KConv.Gen.frame m ρ, fun m ρ _ => Cert.KConvIdeal.Gen.frame m ρ, frame_RConvIdeal,
    preserves_attention, AttnClaims.algebraic, trivial, FfnClaims.algebraic, trivial, ConvClaims.algebraic⟩

end Cert.Proof

end
